-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rows_have_a_finite_maximum [hPre_rows_have_a_finite_maximum : Cert.Pre_rows_have_a_finite_maximum.Facts] (m : (ℓ : Loc Cert.KernelIdeal.nD Cert.KernelIdeal.τ Cert.KernelIdeal.sig) → Buf (Elt Ideal) ℓ) : Prop :=
  ∀ c : Dev Cert.KernelIdeal.nD,
    (Cert.Pre_rows_have_a_finite_maximum.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_have_a_finite_maximum [hPre_rows_have_a_finite_maximum : Cert.Pre_rows_have_a_finite_maximum.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_have_a_finite_maximum.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rows_have_a_finite_maximum [hKernelIdeal : Cert.KernelIdeal.Facts] [hPre_rows_have_a_finite_maximum : Cert.Pre_rows_have_a_finite_maximum.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_have_a_finite_maximum m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rows_have_a_finite_maximum [hReferenceIdeal : Cert.ReferenceIdeal.Facts] [hPre_rows_have_a_finite_maximum : Cert.Pre_rows_have_a_finite_maximum.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_have_a_finite_maximum m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_rows_have_a_finite_maximum [hKernelIdeal : Cert.KernelIdeal.Facts] [hReferenceIdeal : Cert.ReferenceIdeal.Facts] [hPre_rows_have_a_finite_maximum : Cert.Pre_rows_have_a_finite_maximum.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_have_a_finite_maximum m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_rows_have_a_finite_maximum : Cert.Pre_rows_have_a_finite_maximum.Facts),
    quiescent_Kernel (hKernel := hKernel)
    ∧ quiescent_KernelIdeal (hKernelIdeal := hKernelIdeal)
    ∧ quiescent_KernelIdeal_pre_rows_have_a_finite_maximum (hKernelIdeal := hKernelIdeal) (hPre_rows_have_a_finite_maximum := hPre_rows_have_a_finite_maximum)
    ∧ quiescent_ReferenceIdeal (hReferenceIdeal := hReferenceIdeal)
    ∧ quiescent_ReferenceIdeal_pre_rows_have_a_finite_maximum (hReferenceIdeal := hReferenceIdeal) (hPre_rows_have_a_finite_maximum := hPre_rows_have_a_finite_maximum)
    ∧ preserves_Kernel_KernelIdeal
    ∧ algebraic_KernelIdeal_ReferenceIdeal_pre_rows_have_a_finite_maximum (hKernelIdeal := hKernelIdeal) (hReferenceIdeal := hReferenceIdeal) (hPre_rows_have_a_finite_maximum := hPre_rows_have_a_finite_maximum)
-- ==== Pre_rows_have_a_finite_maximum.lean ====
abbrev S32x1000000 : Shape := ⟨2, ![32, 1000000]⟩
abbrev S32x1 : Shape := ⟨2, ![32, 1]⟩
abbrev S_ : Shape := ⟨0, ![]⟩
abbrev S32 : Shape := ⟨1, ![32]⟩

class Facts : Prop where
  bcast_S_S32x1000000 : S_.BroadcastsInDim S32x1000000 (![] : Fin 0 → Fin S32x1000000.rank)
  reducesTo_S32x1000000_S32_d1 : S32x1000000.ReducesTo [1] S32
  h_S_ : 0 < S_.numel
  bcast_S_S32 : S_.BroadcastsInDim S32 (![] : Fin 0 → Fin S32.rank)

variable [Facts]

def fn_where {F : FTy → Type} [FloatOps F] (arg0 : IVec S32x1000000 1) (arg1 : FVec F S32x1000000 .f32) (arg2 : FVec F S_ .f32) : FVec F S32x1000000 .f32 :=
  let v0 : FVec F S_ .f32 := id arg2
  let v1 : FVec F S32x1000000 .f32 := broadcastInDim S32x1000000 ![] bcast_S_S32x1000000 v0
  let v2 : FVec F S32x1000000 .f32 := select arg0 arg1 v1
  v2

def fn {F : FTy → Type} [FloatOps F] (main_arg0 : FVec F S32x1000000 .f32) (main_arg1 : IVec S32x1000000 1) (main_arg2 : FVec F S32x1000000 .f32) (main_arg3 : IVec S32x1 32) : IVec S32 1 :=
  let main_cst : FVec F S_ .f32 := constant S_ .f32 0xFF800000#32
  let main_v0 : FVec F S32x1000000 .f32 := fn_where (F := F) main_arg1 main_arg0 main_cst
  let main_cst_0 : FVec F S_ .f32 := constant S_ .f32 0xFF800000#32
  let main_v1 : FVec F S32 .f32 := (fun x v => Host.reduce FloatOps.maximumf x v reducesTo_S32x1000000_S32_d1 h_S_) main_v0 main_cst_0
  let main_cst_1 : FVec F S_ .f32 := constant S_ .f32 0xFF800000#32
  let main_v2 : FVec F S32 .f32 := broadcastInDim S32 ![] bcast_S_S32 main_cst_1
  let main_v3 : IVec S32 1 := cmpf .ogt main_v1 main_v2
  let main_cst_2 : FVec F S_ .f32 := constant S_ .f32 0x7F800000#32
  let main_v4 : FVec F S32 .f32 := broadcastInDim S32 ![] bcast_S_S32 main_cst_2
  let main_v5 : IVec S32 1 := cmpf .olt main_v1 main_v4
  let main_v6 : IVec S32 1 := andi main_v3 main_v5
  main_v6
-- ==== Kernel.lean ====
abbrev S32x1000000 : Shape := ⟨2, ![32, 1000000]⟩
abbrev S32x1 : Shape := ⟨2, ![32, 1]⟩
abbrev S32x46080 : Shape := ⟨2, ![32, 46080]⟩
abbrev S32 : Shape := ⟨1, ![32]⟩
abbrev S32x131072 : Shape := ⟨2, ![32, 131072]⟩

abbrev nBuf : Space → Nat
  | .hbm => 10
  | .vmem => 16
  | .smem => 0
  | _ => 0

abbrev bufTy : (tb : Table) → Fin (tcTables nBuf tb) → BufTy
  | .hbm, ⟨0, _⟩ => ⟨S32x1000000, .f32⟩
  | .hbm, ⟨1, _⟩ => ⟨S32x1000000, .i1⟩
  | .hbm, ⟨2, _⟩ => ⟨S32x1000000, .f32⟩
  | .hbm, ⟨3, _⟩ => ⟨S32x1, .i32⟩
  | .hbm, ⟨4, _⟩ => ⟨S32x1000000, .i32⟩
  | .hbm, ⟨5, _⟩ => ⟨S32x1, .f32⟩
  | .hbm, ⟨6, _⟩ => ⟨S32x1, .f32⟩
  | .hbm, ⟨7, _⟩ => ⟨S32x1, .i32⟩
  | .hbm, ⟨8, _⟩ => ⟨S32x1000000, .bf16⟩
  | .hbm, ⟨9, _⟩ => ⟨S32x1000000, .f32⟩
  | .local _ .vmem, ⟨0, _⟩ => ⟨S32x46080, .f32⟩
  | .local _ .vmem, ⟨1, _⟩ => ⟨S32x46080, .f32⟩
  | .local _ .vmem, ⟨2, _⟩ => ⟨S32x46080, .i32⟩
  | .local _ .vmem, ⟨3, _⟩ => ⟨S32x46080, .i32⟩
  | .local _ .vmem, ⟨4, _⟩ => ⟨S32x46080, .f32⟩
  | .local _ .vmem, ⟨5, _⟩ => ⟨S32x46080, .f32⟩
  | .local _ .vmem, ⟨6, _⟩ => ⟨S32x1, .f32⟩
  | .local _ .vmem, ⟨7, _⟩ => ⟨S32x1, .f32⟩
  | .local _ .vmem, ⟨8, _⟩ => ⟨S32x1, .i32⟩
  | .local _ .vmem, ⟨9, _⟩ => ⟨S32x46080, .bf16⟩
  | .local _ .vmem, ⟨10, _⟩ => ⟨S32x46080, .bf16⟩
  | .local _ .vmem, ⟨11, _⟩ => ⟨S32x131072, .bf16⟩
  | .local _ .vmem, ⟨12, _⟩ => ⟨S32x131072, .bf16⟩
  | .local _ .vmem, ⟨13, _⟩ => ⟨S32x1, .f32⟩
  | .local _ .vmem, ⟨14, _⟩ => ⟨S32x131072, .f32⟩
  | .local _ .vmem, ⟨15, _⟩ => ⟨S32x131072, .f32⟩
  | _, _ => ⟨S32x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1_0 : Ref sig .tc := ⟨.hbm, 5, rfl⟩
abbrev main_call0_v1_1 : Ref sig .tc := ⟨.hbm, 6, rfl⟩
abbrev main_v0_1 : Ref sig .tc := ⟨.hbm, 7, rfl⟩
abbrev main_call0_v1_3 : Ref sig .tc := ⟨.hbm, 8, rfl⟩
abbrev main_v0_0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S32x46080 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x46080 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x46080 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S32x46080 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S32x131072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S32x131072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S32x1000000 : Shape := ⟨2, ![32, 1000000]⟩
abbrev S32x1 : Shape := ⟨2, ![32, 1]⟩
abbrev S_ : Shape := ⟨0, ![]⟩
abbrev S32 : Shape := ⟨1, ![32]⟩

abbrev nBuf : Space → Nat
  | .hbm => 39
  | .vmem => 0
  | .smem => 0
  | _ => 0

abbrev bufTy : (tb : Table) → Fin (tcTables nBuf tb) → BufTy
  | .hbm, ⟨0, _⟩ => ⟨S32x1000000, .f32⟩
  | .hbm, ⟨1, _⟩ => ⟨S32x1000000, .i1⟩
  | .hbm, ⟨2, _⟩ => ⟨S32x1000000, .f32⟩
  | .hbm, ⟨3, _⟩ => ⟨S32x1, .i32⟩
  | .hbm, ⟨4, _⟩ => ⟨S_, .f32⟩
  | .hbm, ⟨5, _⟩ => ⟨S_, .f32⟩
  | .hbm, ⟨6, _⟩ => ⟨S32x1000000, .f32⟩
  | .hbm, ⟨7, _⟩ => ⟨S32x1000000, .f32⟩
  | .hbm, ⟨8, _⟩ => ⟨S_, .f32⟩
  | .hbm, ⟨9, _⟩ => ⟨S32, .f32⟩
  | .hbm, ⟨10, _⟩ => ⟨S_, .f32⟩
  | .hbm, ⟨11, _⟩ => ⟨S32, .f32⟩
  | .hbm, ⟨12, _⟩ => ⟨S32, .f32⟩
  | .hbm, ⟨13, _⟩ => ⟨S32x1, .f32⟩
  | .hbm, ⟨14, _⟩ => ⟨S32x1000000, .f32⟩
  | .hbm, ⟨15, _⟩ => ⟨S32x1000000, .f32⟩
  | .hbm, ⟨16, _⟩ => ⟨S32x1000000, .f32⟩
  | .hbm, ⟨17, _⟩ => ⟨S_, .f32⟩
  | .hbm, ⟨18, _⟩ => ⟨S32, .f32⟩
  | .hbm, ⟨19, _⟩ => ⟨S32x1, .f32⟩
  | .hbm, ⟨20, _⟩ => ⟨S32x1000000, .f32⟩
  | .hbm, ⟨21, _⟩ => ⟨S32x1000000, .f32⟩
  | .hbm, ⟨22, _⟩ => ⟨S_, .f32⟩
  | .hbm, ⟨23, _⟩ => ⟨S32x1000000, .f32⟩
  | .hbm, ⟨24, _⟩ => ⟨S32x1000000, .f32⟩
  | .hbm, ⟨25, _⟩ => ⟨S_, .f32⟩
  | .hbm, ⟨26, _⟩ => ⟨S32x1000000, .f32⟩
  | .hbm, ⟨27, _⟩ => ⟨S32x1000000, .f32⟩
  | .hbm, ⟨28, _⟩ => ⟨S32x1000000, .f32⟩
  | .hbm, ⟨29, _⟩ => ⟨S32x1000000, .f32⟩
  | .hbm, ⟨30, _⟩ => ⟨S32x1000000, .f32⟩
  | .hbm, ⟨31, _⟩ => ⟨S32x1000000, .f32⟩
  | .hbm, ⟨32, _⟩ => ⟨S32x1000000, .f32⟩
  | .hbm, ⟨33, _⟩ => ⟨S32x1000000, .i32⟩
  | .hbm, ⟨34, _⟩ => ⟨S_, .f32⟩
  | .hbm, ⟨35, _⟩ => ⟨S_, .i32⟩
  | .hbm, ⟨36, _⟩ => ⟨S32, .f32⟩
  | .hbm, ⟨37, _⟩ => ⟨S32, .i32⟩
  | .hbm, ⟨38, _⟩ => ⟨S32x1, .i32⟩
  | _, _ => ⟨S32x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_call0_v0 : Ref sig .tc := ⟨.hbm, 5, rfl⟩
abbrev main_call0_v1 : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_cst_4 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_call1_v0 : Ref sig .tc := ⟨.hbm, 33, rfl⟩
abbrev main_call1_cst : Ref sig .tc := ⟨.hbm, 34, rfl⟩
abbrev main_call1_c : Ref sig .tc := ⟨.hbm, 35, rfl⟩
abbrev main_call1_v1_0 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Proof.Reference.Run.lean ====
/- The reference's run: the straight line of its host operations, what its two results are as functions of its
   arguments, and its end with the arguments unchanged. -/
module

public import proofs.«01_k».proof.Proof.Gen.ReferenceIdeal
public import Idealize.ShloMosaic.Lib.StableHlo.Run
public import Idealize.ShloMosaic.Lib.StableHlo.RunHlo
public import Idealize.ShloMosaic.Lib.Quiescent

@[expose] public section

noncomputable section

namespace Cert.ReferenceIdeal.Hand

open Cert.ReferenceIdeal Cert.ReferenceIdeal.Gen
open Idealize.ShloMosaic Idealize.ShloMosaic.TcCoe Idealize.ShloMosaic.StableHlo Idealize.SL.Sem

variable {F : FTy → Type} [FloatOps F]

/-! ## The results as functions of the arguments -/

/-- The logits, minus infinity where the mask is off. -/
def masked (x : FVec F S32x1000000 .f32) (w : IVec S32x1000000 1) : FVec F S32x1000000 .f32 :=
  select w x (broadcastInDim S32x1000000 ![] bcast_S_S32x1000000 (constant S_ .f32 0xFF800000#32))

/-- Each row's maximum, at every column. -/
def rowMax (y : FVec F S32x1000000 .f32) : FVec F S32x1000000 .f32 :=
  broadcastInDim S32x1000000 ![0, 1] bcast_S32x1_S32x1000000_0_1 (broadcastInDim S32x1 ![0] bcast_S32_S32x1_0
    (maximumf (broadcastInDim S32 ![] bcast_S_S32 (constant S_ .f32 0xFF800000#32))
      (Host.reduce FloatOps.maximumf y (constant S_ .f32 0xFF800000#32) reducesTo_S32x1000000_S32_d1 h_S_)))

/-- The exponentials of the differences from the row's maximum. -/
def shifted (y : FVec F S32x1000000 .f32) : FVec F S32x1000000 .f32 := Host.exp (subf y (rowMax y))

/-- The softmax of each row: the first result at the masked logits. -/
def softmax (y : FVec F S32x1000000 .f32) : FVec F S32x1000000 .f32 :=
  Host.divf (shifted y) (broadcastInDim S32x1000000 ![0, 1] bcast_S32x1_S32x1000000_0_1 (broadcastInDim S32x1 ![0] bcast_S32_S32x1_0
    (Host.reduceAdd (shifted y) (constant S_ .f32 0x00000000#32) reducesTo_S32x1000000_S32_d1 h_S_)))

/-- The Gumbel noise of a uniform sample. -/
def gumbel (u : FVec F S32x1000000 .f32) : FVec F S32x1000000 .f32 :=
  Host.negf (Host.log (Host.negf (Host.log (addf
    (mulf u (broadcastInDim S32x1000000 ![] bcast_S_S32x1000000 (constant S_ .f32 0x3F7FFFFD#32)))
    (broadcastInDim S32x1000000 ![] bcast_S_S32x1000000 (constant S_ .f32 0x33D6BF95#32))))))

/-- Each row's position of its maximum: the second result at the perturbed logits. -/
def argmax (y : FVec F S32x1000000 .f32) : IVec S32x1 32 :=
  broadcastInDim S32x1 ![0] bcast_S32_S32x1_0 fun j =>
    (Host.argReduce reducer_argmax_f32_i32 y (iotaInDim S32x1000000 32 1) (constant S_ .f32 0xFF800000#32) (constantI S_ 32 0#32)
      reducesTo_S32x1000000_S32_d1 h_S_ j).2

/-! ## The run -/

/-- The operations in order: the masking, the softmax, the noise, the perturbed logits' positions. -/
abbrev ops : List (HloOp τ sig (Elt F)) :=
  [ nullary main_cst (constant S_ .f32 0xFF800000#32),
    TRef.unary (.of main_cst) main_call0.v0 id,
    TRef.unary main_call0.v0 main_call0.v1 (broadcastInDim S32x1000000 ![] bcast_S_S32x1000000),
    TRef.ternary (.of main_arg1) (.of main_arg0) main_call0.v1 main_call0.v2 select,
    nullary main_cst_0 (constant S_ .f32 0xFF800000#32),
    binary main_v0 main_cst_0 main_v1 ((fun x v => Host.reduce FloatOps.maximumf x v reducesTo_S32x1000000_S32_d1 h_S_) :
      (⟨S32x1000000, .f32⟩ : BufTy).Contents (Elt F) → (⟨S_, .f32⟩ : BufTy).Contents (Elt F) → (⟨S32, .f32⟩ : BufTy).Contents (Elt F)),
    nullary main_cst_1 (constant S_ .f32 0xFF800000#32),
    unary main_cst_1 main_v2 (broadcastInDim S32 ![] bcast_S_S32 : (⟨S_, .f32⟩ : BufTy).Contents (Elt F) → (⟨S32, .f32⟩ : BufTy).Contents (Elt F)),
    binary main_v2 main_v1 main_v3 (maximumf : (⟨S32, .f32⟩ : BufTy).Contents (Elt F) → (⟨S32, .f32⟩ : BufTy).Contents (Elt F) → (⟨S32, .f32⟩ : BufTy).Contents (Elt F)),
    unary main_v3 main_v4 (broadcastInDim S32x1 ![0] bcast_S32_S32x1_0 : (⟨S32, .f32⟩ : BufTy).Contents (Elt F) → (⟨S32x1, .f32⟩ : BufTy).Contents (Elt F)),
    unary main_v4 main_v5 (broadcastInDim S32x1000000 ![0, 1] bcast_S32x1_S32x1000000_0_1 : (⟨S32x1, .f32⟩ : BufTy).Contents (Elt F) → (⟨S32x1000000, .f32⟩ : BufTy).Contents (Elt F)),
    binary main_v0 main_v5 main_v6 (subf : (⟨S32x1000000, .f32⟩ : BufTy).Contents (Elt F) → (⟨S32x1000000, .f32⟩ : BufTy).Contents (Elt F) → (⟨S32x1000000, .f32⟩ : BufTy).Contents (Elt F)),
    unary main_v6 main_v7 (Host.exp : (⟨S32x1000000, .f32⟩ : BufTy).Contents (Elt F) → (⟨S32x1000000, .f32⟩ : BufTy).Contents (Elt F)),
    nullary main_cst_2 (constant S_ .f32 0x00000000#32),
    binary main_v7 main_cst_2 main_v8 ((fun x v => Host.reduceAdd x v reducesTo_S32x1000000_S32_d1 h_S_) :
      (⟨S32x1000000, .f32⟩ : BufTy).Contents (Elt F) → (⟨S_, .f32⟩ : BufTy).Contents (Elt F) → (⟨S32, .f32⟩ : BufTy).Contents (Elt F)),
    unary main_v8 main_v9 (broadcastInDim S32x1 ![0] bcast_S32_S32x1_0 : (⟨S32, .f32⟩ : BufTy).Contents (Elt F) → (⟨S32x1, .f32⟩ : BufTy).Contents (Elt F)),
    unary main_v9 main_v10 (broadcastInDim S32x1000000 ![0, 1] bcast_S32x1_S32x1000000_0_1 : (⟨S32x1, .f32⟩ : BufTy).Contents (Elt F) → (⟨S32x1000000, .f32⟩ : BufTy).Contents (Elt F)),
    binary main_v7 main_v10 main_v11 (Host.divf : (⟨S32x1000000, .f32⟩ : BufTy).Contents (Elt F) → (⟨S32x1000000, .f32⟩ : BufTy).Contents (Elt F) → (⟨S32x1000000, .f32⟩ : BufTy).Contents (Elt F)),
    nullary main_cst_3 (constant S_ .f32 0x3F7FFFFD#32),
    unary main_cst_3 main_v12 (broadcastInDim S32x1000000 ![] bcast_S_S32x1000000 : (⟨S_, .f32⟩ : BufTy).Contents (Elt F) → (⟨S32x1000000, .f32⟩ : BufTy).Contents (Elt F)),
    binary main_arg2 main_v12 main_v13 (mulf : (⟨S32x1000000, .f32⟩ : BufTy).Contents (Elt F) → (⟨S32x1000000, .f32⟩ : BufTy).Contents (Elt F) → (⟨S32x1000000, .f32⟩ : BufTy).Contents (Elt F)),
    nullary main_cst_4 (constant S_ .f32 0x33D6BF95#32),
    unary main_cst_4 main_v14 (broadcastInDim S32x1000000 ![] bcast_S_S32x1000000 : (⟨S_, .f32⟩ : BufTy).Contents (Elt F) → (⟨S32x1000000, .f32⟩ : BufTy).Contents (Elt F)),
    binary main_v13 main_v14 main_v15 (addf : (⟨S32x1000000, .f32⟩ : BufTy).Contents (Elt F) → (⟨S32x1000000, .f32⟩ : BufTy).Contents (Elt F) → (⟨S32x1000000, .f32⟩ : BufTy).Contents (Elt F)),
    unary main_v15 main_v16 (Host.log : (⟨S32x1000000, .f32⟩ : BufTy).Contents (Elt F) → (⟨S32x1000000, .f32⟩ : BufTy).Contents (Elt F)),
    unary main_v16 main_v17 (Host.negf : (⟨S32x1000000, .f32⟩ : BufTy).Contents (Elt F) → (⟨S32x1000000, .f32⟩ : BufTy).Contents (Elt F)),
    unary main_v17 main_v18 (Host.log : (⟨S32x1000000, .f32⟩ : BufTy).Contents (Elt F) → (⟨S32x1000000, .f32⟩ : BufTy).Contents (Elt F)),
    unary main_v18 main_v19 (Host.negf : (⟨S32x1000000, .f32⟩ : BufTy).Contents (Elt F) → (⟨S32x1000000, .f32⟩ : BufTy).Contents (Elt F)),
    binary main_v0 main_v19 main_v20 (addf : (⟨S32x1000000, .f32⟩ : BufTy).Contents (Elt F) → (⟨S32x1000000, .f32⟩ : BufTy).Contents (Elt F) → (⟨S32x1000000, .f32⟩ : BufTy).Contents (Elt F)),
    TRef.nullary main_call1.v0 (iotaInDim S32x1000000 32 1),
    TRef.nullary main_call1.cst (constant S_ .f32 0xFF800000#32),
    TRef.nullary main_call1.c (constantI S_ 32 0#32),
    TRef.quaternary (.of main_v20) main_call1.v0 main_call1.cst main_call1.c main_call1.v1_0
      (fun x y u v j => (Host.argReduce reducer_argmax_f32_i32 x y u v reducesTo_S32x1000000_S32_d1 h_S_ j).1),
    TRef.quaternary (.of main_v20) main_call1.v0 main_call1.cst main_call1.c main_call1.v1_1
      (fun x y u v j => (Host.argReduce reducer_argmax_f32_i32 x y u v reducesTo_S32x1000000_S32_d1 h_S_ j).2),
    unary main_v21 main_v22 (broadcastInDim S32x1 ![0] bcast_S32_S32x1_0 : (⟨S32, .i32⟩ : BufTy).Contents (Elt F) → (⟨S32x1, .i32⟩ : BufTy).Contents (Elt F)) ]

/-- The program is that straight line, its two calls unfolded. -/
theorem main_eq (c : Dev nD) : main (F := F) c = seq ops := by
  simp only [main, fn_where.body, fn_argmax.body, seq, bind_assoc, pure_bind]

/-- The first result's buffer at the end. -/
theorem result0_eq (V : Valuation τ sig (Elt F)) : after ops V (main_v11 : DevRef τ sig)
    = softmax (masked (V (main_arg0 : DevRef τ sig)) (V (main_arg1 : DevRef τ sig))) := by
  after_results_simp
  rfl

/-- The second result's buffer at the end. -/
theorem result1_eq (V : Valuation τ sig (Elt F)) : after ops V (main_v22 : DevRef τ sig)
    = argmax (addf (masked (V (main_arg0 : DevRef τ sig)) (V (main_arg1 : DevRef τ sig))) (gumbel (V (main_arg2 : DevRef τ sig)))) := by
  after_results_simp
  rfl

/-- The references the operations write, in order. -/
abbrev written : List (Ref sig .tc) :=
  [main_cst, main_call0_v0, main_call0_v1, main_v0, main_cst_0, main_v1, main_cst_1, main_v2, main_v3, main_v4, main_v5, main_v6, main_v7,
   main_cst_2, main_v8, main_v9, main_v10, main_v11, main_cst_3, main_v12, main_v13, main_cst_4, main_v14, main_v15, main_v16, main_v17,
   main_v18, main_v19, main_v20, main_call1_v0, main_call1_cst, main_call1_c, main_call1_v1_0, main_v21, main_v22]

theorem ops_writes : (ops : List (HloOp τ sig (Elt F))).Forall fun op => op.writes ⊆ (written.map (Proc.devRef (τ := τ) .tc)).toFinset :=
  forall_writes_sub_of_map rfl

/-- No operation writes an argument. -/
theorem arg_kept (V : Valuation τ sig (Elt F)) {r : Ref sig .tc} (h : r ∉ written) : after ops V (r : DevRef τ sig) = V (r : DevRef τ sig) :=
  after_of_writes_sub ops V ops_writes h

theorem ops_sub : (ops : List (HloOp τ sig (Elt F))).Forall fun op => op.bufs ⊆ tcRefs τ sig :=
  ⟨nullary_bufs_sub .., unary_bufs_sub .., unary_bufs_sub .., ternary_bufs_sub .., nullary_bufs_sub .., binary_bufs_sub .., nullary_bufs_sub ..,
    unary_bufs_sub .., binary_bufs_sub .., unary_bufs_sub .., unary_bufs_sub .., binary_bufs_sub .., unary_bufs_sub .., nullary_bufs_sub ..,
    binary_bufs_sub .., unary_bufs_sub .., unary_bufs_sub .., binary_bufs_sub .., nullary_bufs_sub .., unary_bufs_sub .., binary_bufs_sub ..,
    nullary_bufs_sub .., unary_bufs_sub .., binary_bufs_sub .., unary_bufs_sub .., unary_bufs_sub .., unary_bufs_sub .., unary_bufs_sub ..,
    binary_bufs_sub .., nullary_bufs_sub .., nullary_bufs_sub .., nullary_bufs_sub .., quaternary_bufs_sub .., quaternary_bufs_sub .., unary_bufs_sub ..⟩

theorem ops_fresh : (ops : List (HloOp τ sig (Elt F))).Forall fun op => op.fresh = ∅ := forall_fresh_of_map rfl

theorem no_scoped_buffer : (Finset.univ.filter fun b : Ref sig .tc => b.isScoped) = ∅ := by decide
theorem no_scoped_counter : (Finset.univ.filter fun sm : SemLoc sig => sm.isScoped .tc) = ∅ := by decide

/-- Every run of the reference ends with each buffer as the line leaves it and every counter at zero. -/
theorem run_main (m : (ℓ : Loc nD τ sig) → Buf (Elt F) ℓ) (g : Dev nD → PrngReg) :
    θ_run defs (onTc (τ := τ) (main (F := F))) ⟨m, fun _ => 0, g⟩ fun r =>
      (∀ (c : Dev nD) (b : Ref sig .tc), r.2.mem ((c.tc : Thread nD τ).loc b) = after ops (launchContents m c) (b : DevRef τ sig))
      ∧ r.2.sem = fun _ => 0 :=
  θ_run_mono (run_seq no_scoped_buffer no_scoped_counter defs main (fun _ => ops) main_eq (fun _ => ops_sub) m g
    fun _ op h => (List.forall_iff_forall_mem.mp ops_fresh) op h) fun r h =>
    ⟨h, sem_eq_zero_of_no_sems rfl r.2⟩

/-- The frame. -/
theorem run_frame (m : (ℓ : Loc nD τ sig) → Buf (Elt F) ℓ) (g : Dev nD → PrngReg) :
    θ_run defs (onTc (τ := τ) (main (F := F))) ⟨m, fun _ => 0, g⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0 :=
  θ_run_mono (run_main m g) fun r h => ⟨fun c => ⟨(h.1 c main_arg0).trans (arg_kept _ (by decide)), (h.1 c main_arg1).trans (arg_kept _ (by decide)),
    (h.1 c main_arg2).trans (arg_kept _ (by decide)), (h.1 c main_arg3).trans (arg_kept _ (by decide))⟩, h.2⟩

end Cert.ReferenceIdeal.Hand
-- ==== Proof.KernelIdeal.Body.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Tactic

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The two zero offsets of a whole-block access, as a constant function. -/
theorem off_zero : (![0, 0] : Fin 2 → Nat) = fun _ => 0 := funext fun a => by fin_cases a <;> rfl

section
variable {sp : Space} {e : EltTy} {d : Fin 2 → Nat} (v : View sig .tc sp ⟨2, d⟩ e) (f : v.ty.Contents (Elt F))
  (inb : ∀ a, (![0, 0] : Fin 2 → Nat) a + d a ≤ d a)

/-- A load of the whole block reads the block's contents. -/
theorem load_whole : v.readAt (Elt F) (Rect.unit (s := ⟨2, d⟩) ![0, 0] d inb).toLoadRect f = v.read (Elt F) f := by
  rw [View.readAt_eq_ld]
  exact View.ld_unit_zero (S := ⟨2, d⟩) off_zero inb _

/-- After stores the last of which is of the whole block, the block holds that store's value. -/
theorem stores_whole (w : (⟨2, d⟩ : Shape).Idx → Elt F e) (L : List (View.Piece (Elt F) ⟨2, d⟩ e)) :
    v.read (Elt F) (v.writes (Elt F) f ((⟨Rect.unit (s := ⟨2, d⟩) ![0, 0] d inb, w⟩ : View.Piece (Elt F) ⟨2, d⟩ e) :: L)) = w := by
  have hcov : ∀ y : (⟨2, d⟩ : Shape).Idx,
      ∃ p ∈ (⟨Rect.unit (s := ⟨2, d⟩) ![0, 0] d inb, w⟩ : View.Piece (Elt F) ⟨2, d⟩ e) :: L, y ∈ p.1.set :=
    fun y => ⟨_, List.mem_cons_self, View.mem_set_unit_zero (S := ⟨2, d⟩) off_zero inb y⟩
  rw [View.read_writes_eq_canon v f _ hcov]
  exact View.canon_cons_unit_zero (S := ⟨2, d⟩) off_zero inb w L
end

/-- The condition under which a point of the first call resets its accumulators. -/
abbrev resets (i : grid0.Coords) : Prop :=
  Scalar.cmpi .ne (Scalar.extui (Scalar.cmpi .eq (BitVec.ofNat 32 (i 0).val) 0#32)) 0#32 = 1#1

/-- The exponentials one block of the first call stores. -/
abbrev expBlk (i : grid0.Coords) (X : Vec F S32x46080 .f32) (W : Vec F S32x46080 .i32) : FVec F S32x46080 .bf16 := k0_pay13 i X W

/-- The running sums after one block, from those before it. -/
abbrev sumBlk (i : grid0.Coords) (X : Vec F S32x46080 .f32) (W : Vec F S32x46080 .i32) (s : Vec F S32x1 .f32) : FVec F S32x1 .f32 :=
  k0_pay12 i X W s

/-- The running maxima of the perturbed logits after one block, from those before it. -/
abbrev maxBlk (i : grid0.Coords) (X : Vec F S32x46080 .f32) (W : Vec F S32x46080 .i32) (U : Vec F S32x46080 .f32)
    (b : Vec F S32x1 .f32) : FVec F S32x1 .f32 :=
  k0_pay5 (k0_pay9 i) (k0_pay10 i X W) (k0_pay14 U) k0_pay15 b

/-- The running positions of those maxima after one block, from the maxima and the positions before it. -/
abbrev argBlk (i : grid0.Coords) (X : Vec F S32x46080 .f32) (W : Vec F S32x46080 .i32) (U : Vec F S32x46080 .f32)
    (b : Vec F S32x1 .f32) (n : Vec F S32x1 .i32) : IVec S32x1 32 :=
  k0_pay4 (BitVec.ofNat 32 (i 0).val) (iota .tc S32x46080 32 [1] iota_S32x46080_d1_w32) (k0_pay9 i) (k0_pay10 i X W) (k0_pay14 U)
    k0_pay15 b n

/-- The first call's body at a point that does not reset: the accumulators are carried on from what they hold. -/
theorem stats_later (c : Dev nD) (i : grid0.Coords)
    (M1 : Memref sig .tc .vmem S32x46080 .f32) (h1 : M1.IsWhole) (M2 : Memref sig .tc .vmem S32x46080 .i32) (h2 : M2.IsWhole)
    (M3 : Memref sig .tc .vmem S32x46080 .f32) (h3 : M3.IsWhole) (M4 : Memref sig .tc .vmem S32x1 .f32) (h4 : M4.IsWhole)
    (M5 : Memref sig .tc .vmem S32x1 .f32) (h5 : M5.IsWhole) (M6 : Memref sig .tc .vmem S32x1 .i32) (h6 : M6.IsWhole)
    (M7 : Memref sig .tc .vmem S32x46080 .bf16) (h7 : M7.IsWhole)
    (X1 : S32x46080.Idx → Elt F .f32) (X2 : S32x46080.Idx → Elt F .i32) (X3 : S32x46080.Idx → Elt F .f32)
    (X4 : S32x1.Idx → Elt F .f32) (X5 : S32x1.Idx → Elt F .f32) (X6 : S32x1.Idx → Elt F .i32)
    (X7 : S32x46080.Idx → Elt F .bf16) (K : PUnit → sProp 𝕄)
    (hc : ¬ resets i) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7
        ∗ (iprop(owns (c : Thread nD τ) M1 fullShare X1 ∗ owns (c : Thread nD τ) M2 fullShare X2 ∗ owns (c : Thread nD τ) M3 fullShare X3
            ∗ owns (c : Thread nD τ) M4 fullShare (sumBlk i X1 X2 X4) ∗ owns (c : Thread nD τ) M5 fullShare (maxBlk i X1 X2 X3 X5)
            ∗ owns (c : Thread nD τ) M6 fullShare (argBlk i X1 X2 X3 X5 X6) ∗ owns (c : Thread nD τ) M7 fullShare (expBlk i X1 X2)) -∗ K ⟨⟩))
      ⊢ wp frame (wpE (defs₀ (F := F)) Variants.none c none) Set.univ (cc0__stats_kernel i M1 h1 M2 h2 M3 h3 M4 h4 M5 h5 M6 h6 M7 h7) K := by
  simp only [cc0__stats_kernel_eq_skeleton]; unfold cc0__stats_kernel_skel
  simp only [k0_part1_eq_skeleton]
  unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  sl_exec (disch := sl_exact hc)
  sl_step
  iapply Hk
  have lanes : stats_later.sl.v4 = iota .tc S32x46080 32 [1] iota_S32x46080_d1_w32 := rfl
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists _; isplitr; swap; · iexact H4
    ipureintro
    rw [stores_whole, load_whole, load_whole, load_whole, e1, e2, e4]
  isplitl [H5]
  · iexists _; isplitr; swap; · iexact H5
    ipureintro
    rw [stores_whole, load_whole, load_whole, load_whole, load_whole, e1, e2, e3, e5]
  isplitl [H6]
  · iexists _; isplitr; swap; · iexact H6
    ipureintro
    rw [stores_whole, load_whole, load_whole, load_whole, load_whole, load_whole, e1, e2, e3, e5, e6]
    dsimp only
    rw [lanes]
  iexists _; isplitr; swap; · iexact H7
  ipureintro
  rw [stores_whole, load_whole, load_whole, e1, e2]

/-- The first call's body at a point that resets: the accumulators start from zero, minus infinity and zero. -/
theorem stats_first (c : Dev nD) (i : grid0.Coords)
    (M1 : Memref sig .tc .vmem S32x46080 .f32) (h1 : M1.IsWhole) (M2 : Memref sig .tc .vmem S32x46080 .i32) (h2 : M2.IsWhole)
    (M3 : Memref sig .tc .vmem S32x46080 .f32) (h3 : M3.IsWhole) (M4 : Memref sig .tc .vmem S32x1 .f32) (h4 : M4.IsWhole)
    (M5 : Memref sig .tc .vmem S32x1 .f32) (h5 : M5.IsWhole) (M6 : Memref sig .tc .vmem S32x1 .i32) (h6 : M6.IsWhole)
    (M7 : Memref sig .tc .vmem S32x46080 .bf16) (h7 : M7.IsWhole)
    (X1 : S32x46080.Idx → Elt F .f32) (X2 : S32x46080.Idx → Elt F .i32) (X3 : S32x46080.Idx → Elt F .f32)
    (X4 : S32x1.Idx → Elt F .f32) (X5 : S32x1.Idx → Elt F .f32) (X6 : S32x1.Idx → Elt F .i32)
    (X7 : S32x46080.Idx → Elt F .bf16) (K : PUnit → sProp 𝕄)
    (hc : resets i) :
    iprop(owns (c : Thread nD τ) M1 fullShare X1 ∗ owns (c : Thread nD τ) M2 fullShare X2 ∗ owns (c : Thread nD τ) M3 fullShare X3
        ∗ owns (c : Thread nD τ) M4 fullShare X4 ∗ owns (c : Thread nD τ) M5 fullShare X5 ∗ owns (c : Thread nD τ) M6 fullShare X6
        ∗ owns (c : Thread nD τ) M7 fullShare X7
        ∗ (iprop(owns (c : Thread nD τ) M1 fullShare X1 ∗ owns (c : Thread nD τ) M2 fullShare X2 ∗ owns (c : Thread nD τ) M3 fullShare X3
            ∗ owns (c : Thread nD τ) M4 fullShare (sumBlk i X1 X2 k0_pay6) ∗ owns (c : Thread nD τ) M5 fullShare (maxBlk i X1 X2 X3 k0_pay7)
            ∗ owns (c : Thread nD τ) M6 fullShare (argBlk i X1 X2 X3 k0_pay7 k0_pay8) ∗ owns (c : Thread nD τ) M7 fullShare (expBlk i X1 X2)) -∗ K ⟨⟩))
      ⊢ wp frame (wpE (defs₀ (F := F)) Variants.none c none) Set.univ (cc0__stats_kernel i M1 h1 M2 h2 M3 h3 M4 h4 M5 h5 M6 h6 M7 h7) K := by
  simp only [cc0__stats_kernel_eq_skeleton]; unfold cc0__stats_kernel_skel
  simp only [k0_part1_eq_skeleton]
  unfold k0_part1_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, Hk⟩
  sl_exec (disch := sl_exact hc)
  sl_step
  iapply Hk
  have lanes : stats_first.sl.v4 = iota .tc S32x46080 32 [1] iota_S32x46080_d1_w32 := rfl
  have start4 : stats_first.sl.v15 (F := F) c M4 = k0_pay6 (F := F) := View.readCov_unit_zero (S := S32x1) M4.view off_zero _ _
  have start5 : stats_first.sl.v45 (F := F) c M5 = k0_pay7 (F := F) := View.readCov_unit_zero (S := S32x1) M5.view off_zero _ _
  have start6 : stats_first.sl.v51 (F := F) c M6 = k0_pay8 := View.readCov_unit_zero (S := S32x1) M6.view off_zero _ _
  isplitl [H1]
  · iexists f1; isplitr; · ipureintro; exact e1
    iexact H1
  isplitl [H2]
  · iexists f2; isplitr; · ipureintro; exact e2
    iexact H2
  isplitl [H3]
  · iexists f3; isplitr; · ipureintro; exact e3
    iexact H3
  isplitl [H4]
  · iexists _; isplitr; swap; · iexact H4
    ipureintro
    rw [stores_whole, load_whole, load_whole, start4, e1, e2]
  isplitl [H5]
  · iexists _; isplitr; swap; · iexact H5
    ipureintro
    rw [stores_whole, load_whole, load_whole, load_whole, start5, e1, e2, e3]
  isplitl [H6]
  · iexists _; isplitr; swap; · iexact H6
    ipureintro
    rw [stores_whole, load_whole, load_whole, load_whole, start5, start6, e1, e2, e3]
    dsimp only
    rw [lanes]
  iexists _; isplitr; swap; · iexact H7
  ipureintro
  rw [stores_whole, load_whole, load_whole, e1, e2]

/-- The second call's body: the stored exponentials times the reciprocal of the row sum. -/
theorem probs_run (c : Dev nD) (i : grid1.Coords)
    (M1 : Memref sig .tc .vmem S32x131072 .bf16) (h1 : M1.IsWhole) (M2 : Memref sig .tc .vmem S32x1 .f32) (h2 : M2.IsWhole)
    (M3 : Memref sig .tc .vmem S32x131072 .f32) (h3 : M3.IsWhole)
    (X1 : S32x131072.Idx → Elt F .bf16) (X2 : S32x1.Idx → Elt F .f32) (X3 : S32x131072.Idx → Elt F .f32) (K : PUnit → sProp 𝕄) :
    iprop(owns (c : Thread nD τ) M1 fullShare X1 ∗ owns (c : Thread nD τ) M2 fullShare X2 ∗ owns (c : Thread nD τ) M3 fullShare X3
        ∗ (iprop(owns (c : Thread nD τ) M1 fullShare X1 ∗ owns (c : Thread nD τ) M2 fullShare X2
            ∗ owns (c : Thread nD τ) M3 fullShare (k1_pay1 X2 X1)) -∗ K ⟨⟩))
      ⊢ wp frame (wpE (defs₀ (F := F)) Variants.none c none) Set.univ (cc1__probs_kernel i M1 h1 M2 h2 M3 h3) K := by
  simp only [cc1__probs_kernel_eq_skeleton]; unfold cc1__probs_kernel_skel
  unfold owns
  iintro ⟨⟨%f1, %e1, H1⟩, ⟨%f2, %e2, H2⟩, ⟨%f3, %e3, H3⟩, Hk⟩
  sl_exec
  sl_step
  iapply Hk
  isplitl [H1]
  · iexists f1; isplitr; · ipureintro; exact e1
    iexact H1
  isplitl [H2]
  · iexists f2; isplitr; · ipureintro; exact e2
    iexact H2
  iexists _; isplitr; swap; · iexact H3
  ipureintro
  rw [stores_whole, load_whole, load_whole, e1, e2]

end Cert.KernelIdeal.Hand
-- ==== Proof.KernelIdeal.Blocks.lean ====
module

public import proofs.«01_k».proof.Proof.KernelIdeal.Body

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-! ## The static grid of the first call, in closed form -/

theorem coords0 : ∀ t : Fin grid0.N, (grid0.coords t 0).val = t.val := by decide +kernel

theorem resets_iff : ∀ t : Fin grid0.N, resets (grid0.coords t) ↔ t.val = 0 := by decide +kernel

/-- The extents of what a transfer of block `t` moves: all rows, and the columns that lie within the array. -/
theorem extent0_0 : ∀ t : Fin grid0.N, win0_0.xsize (grid0.coords t) 0 = 32
    ∧ win0_0.xsize (grid0.coords t) 1 = min 46080 (1000000 - t.val * 46080) := by decide +kernel
theorem extent0_1 : ∀ t : Fin grid0.N, win0_1.xsize (grid0.coords t) 0 = 32
    ∧ win0_1.xsize (grid0.coords t) 1 = min 46080 (1000000 - t.val * 46080) := by decide +kernel
theorem extent0_2 : ∀ t : Fin grid0.N, win0_2.xsize (grid0.coords t) 0 = 32
    ∧ win0_2.xsize (grid0.coords t) 1 = min 46080 (1000000 - t.val * 46080) := by decide +kernel

/-- A lane of a block with its column within the array lies in the moved part, for a window of those extents. -/
theorem lane_lt {x : Fin 2 → ℕ} {n : ℕ} (hx : x 0 = 32 ∧ x 1 = min 46080 (1000000 - n * 46080)) (j : S32x46080.Idx)
    (h : n * 46080 + (j 1).val < 1000000) : ∀ a, (j a).val < x a := fun a => by
  have h0 : (j 0).val < 32 := (j 0).isLt
  have h1 : (j 1).val < 46080 := (j 1).isLt
  match a with
  | ⟨0, _⟩ => show (j 0).val < x 0; omega
  | ⟨1, _⟩ => show (j 1).val < x 1; omega

/-- What a fetch leaves at a lane of the moved part does not depend on what the buffer held before. -/
theorem fill_eq_of_lt {G : Pipeline.Grid} (w : Window sig G) {α : Type} (i : G.Coords) (d d' : w.block.Idx → α)
    (g : (w.xblock i).Idx → α) (j : w.block.Idx) (h : ∀ a, (j a).val < w.xsize i a) : w.fill i d g j = w.fill i d' g j := by
  unfold Window.fill
  rw [dif_pos ((w.moved_iff i j).mpr h), dif_pos ((w.moved_iff i j).mpr h)]

/-- The body's column test at block `t` says exactly that the lane's column lies within the array. -/
theorem column_ok_iff (t : Fin grid0.N) (j : S32x46080.Idx) :
    k0_pay9 (grid0.coords t) j = 1#1 ↔ t.val * 46080 + (j 1).val < 1000000 := by
  have hj : (j 1).val < 46080 := (j 1).isLt
  have ht : t.val < 22 := t.isLt
  unfold k0_pay9
  simp only [cmpi, IntOp.cmpi, broadcast, iota, coords0, Scalar.subi, Scalar.muli, List.foldl, IntOp.subi, IntOp.muli, Nat.zero_mul,
    Nat.zero_add]
  rw [show ∀ b : Bool, (BitVec.ofBool b = 1#1) = (b = true) from by decide, BitVec.slt_iff_toInt_lt]
  have e1 : (BitVec.ofNat 32 (j 1).val).toInt = (j 1).val := by
    rw [BitVec.toInt_eq_toNat_of_lt] <;> rw [BitVec.toNat_ofNat] <;> omega
  have e2 : (1000000#32 - BitVec.ofNat 32 t.val * 46080#32).toNat = 1000000 - t.val * 46080 := by
    rw [BitVec.toNat_sub, BitVec.toNat_mul, BitVec.toNat_ofNat, BitVec.toNat_ofNat, BitVec.toNat_ofNat]; omega
  have e3 : (1000000#32 - BitVec.ofNat 32 t.val * 46080#32).toInt = (1000000 - t.val * 46080 : ℕ) := by
    rw [BitVec.toInt_eq_toNat_of_lt, e2]; rw [e2]; omega
  rw [e1, e3]; omega

/-! ## Lanes past the array's end do not matter -/

section
variable (i : grid0.Coords) {X X' : Vec F S32x46080 .f32} {W W' : Vec F S32x46080 .i32} {U U' : Vec F S32x46080 .f32}

/-- A selection whose condition is off takes its second operand. -/
theorem select_off {α : Type} {b : BitVec 1} (h : ¬ b = 1#1) (x y : α) : Scalar.select b x y = y := if_neg h

/-- The masked logits of a block are those of any block that agrees on the columns within the array. -/
theorem masked_congr (hX : ∀ j, k0_pay9 i j = 1#1 → X j = X' j) (hW : ∀ j, k0_pay9 i j = 1#1 → W j = W' j) :
    k0_pay10 i X W = k0_pay10 i X' W' := by
  funext j
  unfold k0_pay10
  simp only [select, andi, cmpi]
  by_cases h : k0_pay9 i j = 1#1
  · rw [hX j h, hW j h]
  · have h0 : k0_pay9 i j = 0#1 := by generalize k0_pay9 i j = b at h; revert b; decide
    rw [h0, show ∀ b : BitVec 1, IntOp.andi b 0#1 = 0#1 from by decide, show ∀ b : BitVec 1, IntOp.andi b 0#1 = 0#1 from by decide]
    rfl

/-- Likewise the perturbed logits, the noise being read only where the column is within the array. -/
theorem perturbed_congr (v : Vec F S32x46080 .f32) (z : FVec F S32x46080 .f32) (hU : ∀ j, k0_pay9 i j = 1#1 → U j = U' j) :
    k0_pay1 (k0_pay9 i) v (k0_pay14 U) z = k0_pay1 (k0_pay9 i) v (k0_pay14 U') z := by
  funext j
  unfold k0_pay1 k0_pay14
  simp only [select, addf, subf, log, mulf, broadcast]
  by_cases h : k0_pay9 i j = 1#1
  · rw [hU j h]
  · rw [select_off h, select_off h]

variable (hX : ∀ j, k0_pay9 i j = 1#1 → X j = X' j) (hW : ∀ j, k0_pay9 i j = 1#1 → W j = W' j)
  (hU : ∀ j, k0_pay9 i j = 1#1 → U j = U' j)
include hX hW

theorem expBlk_congr : expBlk i X W = expBlk i X' W' := by
  unfold expBlk k0_pay13 k0_pay11; rw [masked_congr i hX hW]

theorem sumBlk_congr (s : Vec F S32x1 .f32) : sumBlk i X W s = sumBlk i X' W' s := by
  unfold sumBlk k0_pay12 k0_pay11; rw [masked_congr i hX hW]

include hU

theorem maxBlk_congr (b : Vec F S32x1 .f32) : maxBlk i X W U b = maxBlk i X' W' U' b := by
  unfold maxBlk k0_pay5 k0_pay2; rw [masked_congr i hX hW, perturbed_congr i _ _ hU]

theorem argBlk_congr (b : Vec F S32x1 .f32) (n : Vec F S32x1 .i32) : argBlk i X W U b n = argBlk i X' W' U' b n := by
  unfold argBlk k0_pay4 k0_pay2; rw [masked_congr i hX hW, perturbed_congr i _ _ hU]
end

end Cert.KernelIdeal.Hand
-- ==== Proof.KernelIdeal.Data.lean ====
module

public import proofs.«01_k».proof.Proof.KernelIdeal.Blocks

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The first call's blocks and accumulators, from the arrays' contents `V` -/

variable (V : Valuation τ sig (Elt F))

/-- Block `t` of the logits, of the mask and of the noise; past the array's end a word nothing depends on. -/
def xBlk (t : Fin grid0.N) : Vec F S32x46080 .f32 :=
  win0_0.fill (grid0.coords t) (fun _ => Scalar.ofBits .f32 0#32) ((win0_0.blk t).view.read (Elt F) (V main_arg0))
def wBlk (t : Fin grid0.N) : Vec F S32x46080 .i32 :=
  win0_1.fill (grid0.coords t) (fun _ => (0#32 : BitVec 32)) ((win0_1.blk t).view.read (Elt F) (V main_call0_v0))
def uBlk (t : Fin grid0.N) : Vec F S32x46080 .f32 :=
  win0_2.fill (grid0.coords t) (fun _ => Scalar.ofBits .f32 0#32) ((win0_2.blk t).view.read (Elt F) (V main_arg2))

/-- The grid's point of a step number. -/
def pt (n : ℕ) : Fin grid0.N := ⟨n % 22, Nat.mod_lt _ (by decide)⟩

theorem pt_val (t : Fin grid0.N) : pt t.val = t := Fin.ext (Nat.mod_eq_of_lt t.isLt)

/-- The running sums after step `n`. -/
def sumAt : ℕ → Vec F S32x1 .f32
  | 0 => sumBlk (grid0.coords (pt 0)) (xBlk V (pt 0)) (wBlk V (pt 0)) k0_pay6
  | n + 1 => sumBlk (grid0.coords (pt (n + 1))) (xBlk V (pt (n + 1))) (wBlk V (pt (n + 1))) (sumAt n)

/-- The running maxima after step `n`. -/
def maxAt : ℕ → Vec F S32x1 .f32
  | 0 => maxBlk (grid0.coords (pt 0)) (xBlk V (pt 0)) (wBlk V (pt 0)) (uBlk V (pt 0)) k0_pay7
  | n + 1 => maxBlk (grid0.coords (pt (n + 1))) (xBlk V (pt (n + 1))) (wBlk V (pt (n + 1))) (uBlk V (pt (n + 1))) (maxAt n)

/-- The running positions after step `n`. -/
def argAt : ℕ → Vec F S32x1 .i32
  | 0 => argBlk (grid0.coords (pt 0)) (xBlk V (pt 0)) (wBlk V (pt 0)) (uBlk V (pt 0)) k0_pay7 k0_pay8
  | n + 1 => argBlk (grid0.coords (pt (n + 1))) (xBlk V (pt (n + 1))) (wBlk V (pt (n + 1))) (uBlk V (pt (n + 1))) (maxAt V n) (argAt n)

/-! ## The second call's blocks -/

/-- Block `t` of the stored exponentials; past the array's end a word nothing depends on. -/
def eBlk (t : Fin grid1.N) : Vec F S32x131072 .bf16 :=
  win1_0.fill (grid1.coords t) (fun _ => Scalar.ofBits .bf16 0#16) ((win1_0.blk t).view.read (Elt F) (V main_call0_v1_3))

/-! ## The proof data of the two calls -/

/-- The first call's: the arrays at `V`; after the body at a point the operands' buffers hold their blocks, the
    accumulators' what they have run up to, the last result's the block's exponentials. -/
def dat0 (c : Dev nD) : Dat τ (Elt F) Unit ℕ (UR sig nD τ) ℕ cfg0 c where
  A w := V (Pipeline.arrRef spec0 w)
  after w t := match w with
    | ⟨0, _⟩ => xBlk V t
    | ⟨1, _⟩ => wBlk V t
    | ⟨2, _⟩ => uBlk V t
    | ⟨3, _⟩ => sumAt V t.val
    | ⟨4, _⟩ => maxAt V t.val
    | ⟨5, _⟩ => argAt V t.val
    | ⟨6, _⟩ => expBlk (grid0.coords t) (xBlk V t) (wBlk V t)
  Φ _ := Pipeline.scopedRest (Ix := Unit) (Name := ℕ) (U := UR sig nD τ) (Lvl := ℕ) (Val := Elt F) spec0 c
  q _ := fullShare
  owed _ := 0

/-- The second call's: the arrays at `V`; after the body the operands' buffers hold the block and the row sums, the
    result's the block's quotients. -/
def dat1 (c : Dev nD) : Dat τ (Elt F) Unit ℕ (UR sig nD τ) ℕ cfg1 c where
  A w := V (Pipeline.arrRef spec1 w)
  after w t := match w with
    | ⟨0, _⟩ => eBlk V t
    | ⟨1, _⟩ => V main_call0_v1_0
    | ⟨2, _⟩ => k1_pay1 (V main_call0_v1_0) (eBlk V t)
  Φ _ := Pipeline.scopedRest (Ix := Unit) (Name := ℕ) (U := UR sig nD τ) (Lvl := ℕ) (Val := Elt F) spec1 c
  q _ := fullShare
  owed _ := 0

/-! ## What the bodies find -/

theorem before0_0 (c : Dev nD) (t : Fin cfg0.N) (d) : (dat0 V c).before (0 : Fin 7) t d
    = win0_0.fill (grid0.coords t) d ((win0_0.blk t).view.read (Elt F) (V main_arg0)) := by
  unfold Dat.before; rw [if_pos (fetch0_0 t)]; rfl
theorem before0_1 (c : Dev nD) (t : Fin cfg0.N) (d) : (dat0 V c).before (1 : Fin 7) t d
    = win0_1.fill (grid0.coords t) d ((win0_1.blk t).view.read (Elt F) (V main_call0_v0)) := by
  unfold Dat.before; rw [if_pos (fetch0_1 t)]; rfl
theorem before0_2 (c : Dev nD) (t : Fin cfg0.N) (d) : (dat0 V c).before (2 : Fin 7) t d
    = win0_2.fill (grid0.coords t) d ((win0_2.blk t).view.read (Elt F) (V main_arg2)) := by
  unfold Dat.before; rw [if_pos (fetch0_2 t)]; rfl

/-- No earlier point than the last writes an accumulator back. -/
theorem flush_prev (w : Fin cfg0.W) (hw : ∀ t : Fin cfg0.N, (cfg0.win w).flush t = true ↔ t.val % 22 = 21) (t : Fin cfg0.N)
    (ht : t.val ≠ 0) : (cfg0.win w).flush ⟨t.val - 1, Nat.lt_of_le_of_lt (Nat.sub_le _ _) t.isLt⟩ = false := by
  have hlt : t.val < 22 := t.isLt
  rw [← Bool.not_eq_true, hw]
  show ¬ (t.val - 1) % 22 = 21
  omega

theorem before0_3 (c : Dev nD) (t : Fin cfg0.N) (ht : t.val ≠ 0) (d) : (dat0 V c).before (3 : Fin 7) t d = sumAt V (t.val - 1) :=
  Dat.before_out_kept _ (3 : Fin 7) rfl t ht (flush_prev 3 flush0_3 t ht) (fun _ => rfl) (fun _ _ => rfl) d
theorem before0_4 (c : Dev nD) (t : Fin cfg0.N) (ht : t.val ≠ 0) (d) : (dat0 V c).before (4 : Fin 7) t d = maxAt V (t.val - 1) :=
  Dat.before_out_kept _ (4 : Fin 7) rfl t ht (flush_prev 4 flush0_4 t ht) (fun _ => rfl) (fun _ _ => rfl) d
theorem before0_5 (c : Dev nD) (t : Fin cfg0.N) (ht : t.val ≠ 0) (d) : (dat0 V c).before (5 : Fin 7) t d = argAt V (t.val - 1) :=
  Dat.before_out_kept _ (5 : Fin 7) rfl t ht (flush_prev 5 flush0_5 t ht) (fun _ => rfl) (fun _ _ => rfl) d

theorem before1_0 (c : Dev nD) (t : Fin cfg1.N) (d) : (dat1 V c).before (0 : Fin 3) t d
    = win1_0.fill (grid1.coords t) d ((win1_0.blk t).view.read (Elt F) (V main_call0_v1_3)) := by
  unfold Dat.before; rw [if_pos (fetch1_0 t)]; rfl

/-- The one block of the row sums is the whole array. -/
theorem rowSums_read (t : Fin cfg1.N) : (win1_1.blk t).view.read (Elt F) (V main_call0_v1_0) = V main_call0_v1_0 := by
  funext j
  rw [View.read_apply]
  refine congrArg (V main_call0_v1_0) (funext fun a => Fin.ext ?_)
  have h : ∀ t : Fin grid1.N, win1_1.index t 0 = 0 ∧ win1_1.index t 1 = 0 := by decide +kernel
  match a with
  | ⟨0, _⟩ => show win1_1.index t 0 * 32 + 1 * (j 0).val = (j 0).val; rw [(h t).1]; omega
  | ⟨1, _⟩ => show win1_1.index t 1 * 1 + 1 * (j 1).val = (j 1).val; rw [(h t).2]; omega

theorem before1_1 (c : Dev nD) (t : Fin cfg1.N) (d) : (dat1 V c).before (1 : Fin 3) t d = V main_call0_v1_0 :=
  (Dat.before_in_eq_fetched (dat1 V c) (1 : Fin 3) rfl (fun _ => rfl) (fun _ _ _ => rfl) (fun t => (rowSums_read V t).symm) t d).trans
    (rowSums_read V t)

end Cert.KernelIdeal.Hand
-- ==== Proof.KernelIdeal.Obligation.lean ====
module

public import proofs.«01_k».proof.Proof.KernelIdeal.Data

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (V : Valuation τ sig (Elt F))

/-! ## The accumulators, step by step -/

theorem sumAt_first (t : Fin grid0.N) (h : t.val = 0) :
    sumAt V t.val = sumBlk (grid0.coords t) (xBlk V t) (wBlk V t) k0_pay6 := by
  have e : pt 0 = t := (congrArg pt h.symm).trans (pt_val t)
  rw [h, sumAt, e]
theorem maxAt_first (t : Fin grid0.N) (h : t.val = 0) :
    maxAt V t.val = maxBlk (grid0.coords t) (xBlk V t) (wBlk V t) (uBlk V t) k0_pay7 := by
  have e : pt 0 = t := (congrArg pt h.symm).trans (pt_val t)
  rw [h, maxAt, e]
theorem argAt_first (t : Fin grid0.N) (h : t.val = 0) :
    argAt V t.val = argBlk (grid0.coords t) (xBlk V t) (wBlk V t) (uBlk V t) k0_pay7 k0_pay8 := by
  have e : pt 0 = t := (congrArg pt h.symm).trans (pt_val t)
  rw [h, argAt, e]

theorem pt_pred (t : Fin grid0.N) (h : t.val ≠ 0) : t.val = (t.val - 1) + 1 ∧ pt ((t.val - 1) + 1) = t := by
  have e : (t.val - 1) + 1 = t.val := by omega
  exact ⟨e.symm, (congrArg pt e).trans (pt_val t)⟩

theorem sumAt_later (t : Fin grid0.N) (h : t.val ≠ 0) :
    sumAt V t.val = sumBlk (grid0.coords t) (xBlk V t) (wBlk V t) (sumAt V (t.val - 1)) := by
  obtain ⟨e, e'⟩ := pt_pred t h
  conv_lhs => rw [e, sumAt, e']
theorem maxAt_later (t : Fin grid0.N) (h : t.val ≠ 0) :
    maxAt V t.val = maxBlk (grid0.coords t) (xBlk V t) (wBlk V t) (uBlk V t) (maxAt V (t.val - 1)) := by
  obtain ⟨e, e'⟩ := pt_pred t h
  conv_lhs => rw [e, maxAt, e']
theorem argAt_later (t : Fin grid0.N) (h : t.val ≠ 0) :
    argAt V t.val = argBlk (grid0.coords t) (xBlk V t) (wBlk V t) (uBlk V t) (maxAt V (t.val - 1)) (argAt V (t.val - 1)) := by
  obtain ⟨e, e'⟩ := pt_pred t h
  conv_lhs => rw [e, argAt, e']

/-! ## The lanes within the array are the same whatever the buffers held before the fetch -/

theorem xBlk_lane (t : Fin grid0.N) (d) (j : S32x46080.Idx) (h : k0_pay9 (grid0.coords t) j = 1#1) :
    win0_0.fill (grid0.coords t) d ((win0_0.blk t).view.read (Elt F) (V main_arg0)) j = xBlk V t j :=
  fill_eq_of_lt win0_0 _ d _ _ j (lane_lt (extent0_0 t) j ((column_ok_iff t j).mp h))
theorem wBlk_lane (t : Fin grid0.N) (d) (j : S32x46080.Idx) (h : k0_pay9 (grid0.coords t) j = 1#1) :
    win0_1.fill (grid0.coords t) d ((win0_1.blk t).view.read (Elt F) (V main_call0_v0)) j = wBlk V t j :=
  fill_eq_of_lt win0_1 _ d _ _ j (lane_lt (extent0_1 t) j ((column_ok_iff t j).mp h))
theorem uBlk_lane (t : Fin grid0.N) (d) (j : S32x46080.Idx) (h : k0_pay9 (grid0.coords t) j = 1#1) :
    win0_2.fill (grid0.coords t) d ((win0_2.blk t).view.read (Elt F) (V main_arg2)) j = uBlk V t j :=
  fill_eq_of_lt win0_2 _ d _ _ j (lane_lt (extent0_2 t) j ((column_ok_iff t j).mp h))

/-! ## The body obligations -/

/-- A staging buffer whose contents agree with `Y` on the part a transfer moves is one stated at `Y` on that part only. -/
theorem give_back {G : Pipeline.Grid} (w : Window sig G) (i : G.Coords) (c : Dev nD) (s : Fin w.nbuf)
    (X Y : w.block.Idx → Elt F w.elt) (h : w.cut i X = w.cut i Y) :
    (owns (c : Thread nD τ) (w.stage s) fullShare X : sProp 𝕄)
      ⊢ iprop(∃ d, owns (c : Thread nD τ) (w.stage s) fullShare (w.fill i d (w.cut i Y))) := by
  iintro H
  iexists X
  rw [w.fill_congr_cut i h]
  iexact H

/-- The first call's body at a point, over the blocks' named contents: whatever the buffers held past the array's end,
    the accumulators and the exponentials come out as the proof data says. -/
theorem stats_point (c : Dev nD) (t : Fin cfg0.N) (d0 d1 d2 d3 d4 d5 d6) (K : PUnit → sProp 𝕄) :
    iprop(owns (c : Thread nD τ) (st0_0 t) fullShare ((dat0 V c).before (0 : Fin 7) t d0)
        ∗ owns (c : Thread nD τ) (st0_1 t) fullShare ((dat0 V c).before (1 : Fin 7) t d1)
        ∗ owns (c : Thread nD τ) (st0_2 t) fullShare ((dat0 V c).before (2 : Fin 7) t d2)
        ∗ owns (c : Thread nD τ) (st0_3 t) fullShare ((dat0 V c).before (3 : Fin 7) t d3)
        ∗ owns (c : Thread nD τ) (st0_4 t) fullShare ((dat0 V c).before (4 : Fin 7) t d4)
        ∗ owns (c : Thread nD τ) (st0_5 t) fullShare ((dat0 V c).before (5 : Fin 7) t d5)
        ∗ owns (c : Thread nD τ) (st0_6 t) fullShare ((dat0 V c).before (6 : Fin 7) t d6)
        ∗ (iprop(owns (c : Thread nD τ) (st0_0 t) fullShare ((dat0 V c).before (0 : Fin 7) t d0)
            ∗ owns (c : Thread nD τ) (st0_1 t) fullShare ((dat0 V c).before (1 : Fin 7) t d1)
            ∗ owns (c : Thread nD τ) (st0_2 t) fullShare ((dat0 V c).before (2 : Fin 7) t d2)
            ∗ owns (c : Thread nD τ) (st0_3 t) fullShare (sumAt V t.val) ∗ owns (c : Thread nD τ) (st0_4 t) fullShare (maxAt V t.val)
            ∗ owns (c : Thread nD τ) (st0_5 t) fullShare (argAt V t.val)
            ∗ owns (c : Thread nD τ) (st0_6 t) fullShare (expBlk (grid0.coords t) (xBlk V t) (wBlk V t))) -∗ K ⟨⟩))
      ⊢ wp frame (wpE (defs₀ (F := F)) Variants.none c none) Set.univ (bodyAt0 t) K := by
  have hX := fun j h => xBlk_lane V t d0 j h
  have hW := fun j h => wBlk_lane V t d1 j h
  have hU := fun j h => uBlk_lane V t d2 j h
  rw [before0_0 V c t d0, before0_1 V c t d1, before0_2 V c t d2]
  by_cases ht : t.val = 0
  · have e := stats_first (F := F) c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (st0_6 t) (hstage0_6 ((cfg0.slots t 6).cast nbuf0_6))
      (win0_0.fill (grid0.coords t) d0 ((win0_0.blk t).view.read (Elt F) (V main_arg0)))
      (win0_1.fill (grid0.coords t) d1 ((win0_1.blk t).view.read (Elt F) (V main_call0_v0)))
      (win0_2.fill (grid0.coords t) d2 ((win0_2.blk t).view.read (Elt F) (V main_arg2)))
      ((dat0 V c).before (3 : Fin 7) t d3) ((dat0 V c).before (4 : Fin 7) t d4) ((dat0 V c).before (5 : Fin 7) t d5)
      ((dat0 V c).before (6 : Fin 7) t d6) K ((resets_iff t).mpr ht)
    rw [expBlk_congr _ hX hW, sumBlk_congr _ hX hW, maxBlk_congr _ hX hW hU, argBlk_congr _ hX hW hU,
      ← sumAt_first V t ht, ← maxAt_first V t ht, ← argAt_first V t ht] at e
    exact e
  · rw [before0_3 V c t ht d3, before0_4 V c t ht d4, before0_5 V c t ht d5]
    have e := stats_later (F := F) c (grid0.coords t) (st0_0 t) (hstage0_0 ((cfg0.slots t 0).cast nbuf0_0)) (st0_1 t) (hstage0_1 ((cfg0.slots t 1).cast nbuf0_1))
      (st0_2 t) (hstage0_2 ((cfg0.slots t 2).cast nbuf0_2)) (st0_3 t) (hstage0_3 ((cfg0.slots t 3).cast nbuf0_3))
      (st0_4 t) (hstage0_4 ((cfg0.slots t 4).cast nbuf0_4)) (st0_5 t) (hstage0_5 ((cfg0.slots t 5).cast nbuf0_5))
      (st0_6 t) (hstage0_6 ((cfg0.slots t 6).cast nbuf0_6))
      (win0_0.fill (grid0.coords t) d0 ((win0_0.blk t).view.read (Elt F) (V main_arg0)))
      (win0_1.fill (grid0.coords t) d1 ((win0_1.blk t).view.read (Elt F) (V main_call0_v0)))
      (win0_2.fill (grid0.coords t) d2 ((win0_2.blk t).view.read (Elt F) (V main_arg2)))
      (sumAt V (t.val - 1)) (maxAt V (t.val - 1)) (argAt V (t.val - 1))
      ((dat0 V c).before (6 : Fin 7) t d6) K (fun h => ht ((resets_iff t).mp h))
    rw [expBlk_congr _ hX hW, sumBlk_congr _ hX hW, maxBlk_congr _ hX hW hU, argBlk_congr _ hX hW hU,
      ← sumAt_later V t ht, ← maxAt_later V t ht, ← argAt_later V t ht] at e
    exact e

/-- The first call's body takes each point's buffers from what it finds in them to what the proof data says it leaves. -/
theorem obligation0 (c : Dev nD) : BodyObligationLoose (dat0 V c) (defs₀ (F := F)) Variants.none () Set.univ := fun t => by
  rw [bigSep_W0, bigSep_W0]
  simp only
  rw [show (dat0 V c).Φ t.succ = (dat0 V c).Φ t.castSucc from rfl,
    show (dat0 V c).owesAt () t.succ = (dat0 V c).owesAt () t.castSucc from rfl,
    show defs₀ (F := F) .tc cfg0.body (cfg0.bodyArgs t (cfg0.slots t)) = bodyAt0 t from by unfold defs₀; rw [Defs.onTc_tc]]
  iintro ⟨HΦ, Ho, ⟨%d0, H0⟩, ⟨%d1, H1⟩, ⟨%d2, H2⟩, ⟨%d3, H3⟩, ⟨%d4, H4⟩, ⟨%d5, H5⟩, ⟨%d6, H6⟩⟩
  have b0 := give_back (F := F) win0_0 (grid0.coords t) c (cfg0.slots t 0) ((dat0 V c).before (0 : Fin 7) t d0) (xBlk V t)
    (by rw [before0_0]; exact (win0_0.cut_fill _ _ _).trans (win0_0.cut_fill _ _ _).symm)
  have b1 := give_back (F := F) win0_1 (grid0.coords t) c (cfg0.slots t 1) ((dat0 V c).before (1 : Fin 7) t d1) (wBlk V t)
    (by rw [before0_1]; exact (win0_1.cut_fill _ _ _).trans (win0_1.cut_fill _ _ _).symm)
  have b2 := give_back (F := F) win0_2 (grid0.coords t) c (cfg0.slots t 2) ((dat0 V c).before (2 : Fin 7) t d2) (uBlk V t)
    (by rw [before0_2]; exact (win0_2.cut_fill _ _ _).trans (win0_2.cut_fill _ _ _).symm)
  have b6 := give_back (F := F) win0_6 (grid0.coords t) c (cfg0.slots t 6) (expBlk (grid0.coords t) (xBlk V t) (wBlk V t)) _ rfl
  iapply (stats_point V c t d0 d1 d2 d3 d4 d5 d6)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iapply b0; iexact H0
  isplitl [H1]; · iapply b1; iexact H1
  isplitl [H2]; · iapply b2; iexact H2
  isplitl [H3]; · iexact H3
  isplitl [H4]; · iexact H4
  isplitl [H5]; · iexact H5
  iapply b6; iexact H6

/-- The quotients' block where the write-back takes it from does not depend on the lanes past the array's end. -/
theorem probs_lane (t : Fin grid1.N) (d) (s : Vec F S32x1 .f32) :
    win1_2.cut (grid1.coords t) (k1_pay1 s (win1_0.fill (grid1.coords t) d ((win1_0.blk t).view.read (Elt F) (V main_call0_v1_3))))
      = win1_2.cut (grid1.coords t) (k1_pay1 s (eBlk V t)) := by
  funext j
  have e : win1_0.fill (grid1.coords t) d ((win1_0.blk t).view.read (Elt F) (V main_call0_v1_3)) (win1_2.xinj (grid1.coords t) j)
    = eBlk V t (win1_2.xinj (grid1.coords t) j) := fill_eq_of_lt win1_0 _ d _ _ _ fun a => (j a).isLt
  show k1_pay1 s _ (win1_2.xinj (grid1.coords t) j) = k1_pay1 s _ (win1_2.xinj (grid1.coords t) j)
  generalize win1_0.fill (grid1.coords t) d ((win1_0.blk t).view.read (Elt F) (V main_call0_v1_3)) = Y at e ⊢
  unfold k1_pay1
  simp only [mulf, extf, shapeCast_self, e]

/-- The second call's body likewise. -/
theorem obligation1 (c : Dev nD) : BodyObligationLoose (dat1 V c) (defs₀ (F := F)) Variants.none () Set.univ := fun t => by
  rw [bigSep_W1, bigSep_W1]
  simp only
  rw [show (dat1 V c).Φ t.succ = (dat1 V c).Φ t.castSucc from rfl,
    show (dat1 V c).owesAt () t.succ = (dat1 V c).owesAt () t.castSucc from rfl,
    show defs₀ (F := F) .tc cfg1.body (cfg1.bodyArgs t (cfg1.slots t)) = bodyAt1 t from by unfold defs₀; rw [Defs.onTc_tc]]
  iintro ⟨HΦ, Ho, ⟨%d0, H0⟩, ⟨%d1, H1⟩, ⟨%d2, H2⟩⟩
  have b0 := give_back (F := F) win1_0 (grid1.coords t) c (cfg1.slots t 0) ((dat1 V c).before (0 : Fin 3) t d0) (eBlk V t)
    (by rw [before1_0]; exact (win1_0.cut_fill _ _ _).trans (win1_0.cut_fill _ _ _).symm)
  have b2 := give_back (F := F) win1_2 (grid1.coords t) c (cfg1.slots t 2) _ (k1_pay1 (V main_call0_v1_0) (eBlk V t))
    (probs_lane V t d0 (V main_call0_v1_0))
  rw [before1_0 V c t d0] at b0
  rw [before1_0 V c t d0, before1_1 V c t d1]
  iapply (probs_run c (grid1.coords t) (st1_0 t) (hstage1_0 ((cfg1.slots t 0).cast nbuf1_0)) (st1_1 t) (hstage1_1 ((cfg1.slots t 1).cast nbuf1_1))
    (st1_2 t) (hstage1_2 ((cfg1.slots t 2).cast nbuf1_2)) (win1_0.fill (grid1.coords t) d0 ((win1_0.blk t).view.read (Elt F) (V main_call0_v1_3)))
    (V main_call0_v1_0) ((dat1 V c).before (2 : Fin 3) t d2))
  isplitl [H0]; · iexact H0
  isplitl [H1]; · iexact H1
  isplitl [H2]; · iexact H2
  iintro ⟨H0, H1, H2⟩
  isplitl [HΦ]; · iexact HΦ
  isplitl [Ho]; · iexact Ho
  isplitl [H0]; · iapply b0; iexact H0
  isplitl [H1]; · iexact H1
  iapply b2; iexact H2

end Cert.KernelIdeal.Hand
-- ==== Proof.KernelIdeal.Run.lean ====
/- The launch of the kernel's program: what its buffers hold between its three items, the two calls' segments, and the
   run to the end with the arguments unchanged and the results at what the second and the first call wrote back. -/
module

public import proofs.«01_k».proof.Proof.KernelIdeal.Obligation
public import proofs.«01_k».proof.Proof.Gen.KernelIdeal.Regions
public import Idealize.ShloMosaic.Lib.Pipeline.FrameTail
public import Idealize.ShloMosaic.Lib.StableHlo.RunHlo

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg BodyObligation BodyObligationLoose cellOf)

variable {F : FTy → Type} [FloatOps F]

local notation "𝕄" => MT nD τ sig Unit (Elt F) ℕ (UR sig nD τ) ℕ

/-- No core owes another anything: no level is assigned. -/
abbrev noLevels : GSem nD τ sig → Finset Unit := fun _ => ∅
abbrev levelZero : GSem nD τ sig → Unit → ℕ := fun _ _ => 0

/-! ## The buffers between the items -/

variable (m : (ℓ : Loc nD τ sig) → Buf (Elt F) ℓ)

/-- A core's buffers once the first call has returned. -/
def mid (c : Dev nD) : Valuation τ sig (Elt F) := Pipeline.afterRegion (dat0 (V1 m c) c) (V1 m c)
/-- A core's buffers once the second call has returned. -/
def fin (c : Dev nD) : Valuation τ sig (Elt F) := Pipeline.afterRegion (dat1 (mid m c) c) (mid m c)

/-- The proof data of the two calls, each over the buffers it is entered with. -/
def pdats : (p : Fin 2) → (c : Dev nD) → Dat τ (Elt F) Unit ℕ (UR sig nD τ) ℕ (cfgs p) c
  | 0, c => dat0 (V1 m c) c
  | 1, c => dat1 (mid m c) c

/-- The first call writes no argument. -/
theorem mid_arg (c : Dev nD) {r : Ref sig .tc} (h : r ∉ ([main_call0_v1_0, main_call0_v1_1, main_v0_1, main_call0_v1_3] : List (Ref sig .tc))) :
    mid m c r = V1 m c r := by
  by_cases e : ∃ w, r = Pipeline.arrRef spec0 w
  · obtain ⟨w, rfl⟩ := e
    have hin : (cfg0.win w).isOut = false := by
      revert h; revert w; decide
    exact (Pipeline.afterRegion_arr (cfg := cfg0) (dat0 (V1 m c) c) (V1 m c) winFacts0.arr_inj w).trans ((dat0 (V1 m c) c).arrAt_in w hin _)
  · exact Pipeline.afterRegion_of_not_arr _ _ fun w hw => e ⟨w, hw⟩

theorem fin_arg (c : Dev nD) {r : Ref sig .tc} (h : r ∉ ([main_v0_0] : List (Ref sig .tc))) : fin m c r = mid m c r := by
  by_cases e : ∃ w, r = Pipeline.arrRef spec1 w
  · obtain ⟨w, rfl⟩ := e
    have hin : (cfg1.win w).isOut = false := by
      revert h; revert w; decide
    exact (Pipeline.afterRegion_arr (cfg := cfg1) (dat1 (mid m c) c) (mid m c) winFacts1.arr_inj w).trans ((dat1 (mid m c) c).arrAt_in w hin _)
  · exact Pipeline.afterRegion_of_not_arr _ _ fun w hw => e ⟨w, hw⟩

/-- An argument ends as launched. -/
theorem fin_launch (c : Dev nD) {r : Ref sig .tc}
    (h : r ∉ ([main_call0_v0, main_call0_v1_0, main_call0_v1_1, main_v0_1, main_call0_v1_3, main_v0_0] : List (Ref sig .tc))) :
    fin m c r = m ((c : Thread nD τ).loc r) :=
  (fin_arg m c (by simp_all)).trans <| (mid_arg m c (by simp_all)).trans <| V1_of m c r (by simp_all)

/-! ## A call's segment -/

set_option backward.isDefEq.respectTransparency.types false in
/-- A call's segment between two contents of the unscoped buffers, from its body's obligation: the arrays are split out of
    the buffers held, the others ride along, and the arrays are put back as the call leaves them. -/
def callSeg (D : (p : Fin 2) → (c : Dev nD) → Dat τ (Elt F) Unit ℕ (UR sig nD τ) ℕ (cfgs p) c) (p : Fin 2)
    (kit : Pipeline.LaunchFacts (nD := nD) (τ := τ) cfgs p)
    (hbody : ∀ c, BodyObligationLoose (D p c) (defs₀ (F := F)) Variants.none () Set.univ)
    (howed : ∀ c t, (D p c).owed t = 0) (hrec : ∀ c, (D p c).recorded 0 = Set.univ) (hq : ∀ c w, (D p c).q w = fullShare)
    (hΦ : ∀ c t, (D p c).Φ t = Pipeline.scopedRest (cfgs p).spec c)
    (V : Dev nD → Valuation τ sig (Elt F)) (hV : ∀ c w, (D p c).arrAt w 0 = V c (Pipeline.arrRef (cfgs p).spec w)) :
    RegionSeg (pcfgs (F := F)) adm D () defs₀ Variants.none noLevels levelZero p where
  win := kit.win.to₀
  block_pos := kit.block_pos
  stage_whole := kit.stage_whole
  K := PEmpty
  osem k := k.elim
  ho := Pipeline.OwnSemFacts.none _
  hbody := hbody
  hwaits := Pipeline.hwaits_of_owed_zero _ _ _ _ noLevels levelZero p howed
  pre c := iprop(unscopedBufs c (fun b => V c b) ∗ ∃ W, owes (c : Thread nD τ) (0 : CellTallies nD τ sig Unit) W)
  post c := iprop(unscopedBufs c (fun b => Pipeline.afterRegion (D p c) (V c) b) ∗ ∃ W, owes (c : Thread nD τ) (0 : CellTallies nD τ sig Unit) W)
  X _ := BI.emp
  Y _ := BI.emp
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs (p := p) (pcfgs (F := F)) adm D kit.win kit.arr_whole c
      ((D p c).share_full (hq c)) (fun b => V c b) (hV c)
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      rw [howed c 0, hrec c]
      icases HO with ⟨%W, HO⟩; iexists W; isplitr; · ipureintro; exact fun _ _ => Or.inl trivial
      iexact HO
    isplitr; · iempintro
    iexact Hrest
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c D ((D p c).share_full (hq c)) (fun b => V c b) (fun b => Pipeline.afterRegion (D p c) (V c) b) ((D p c).arrAt · (cfgs p).N)
      (fun w => (Pipeline.afterRegion_arr (D p c) (V c) kit.win.arr_inj w).symm)
      (fun b hb => Pipeline.afterRegion_of_not_arr (D p c) (V c) fun w hw => hb (Finset.mem_image.mpr ⟨w, Finset.mem_univ _, hw.symm⟩))
    iintro ⟨Ha, HO, -, Hrest⟩
    imodintro
    isplitl [Ha Hrest]
    · iapply hjoin; isplitl [Ha] <;> iassumption
    unfold Pipeline.Dat.owesAt Pipeline.owesWithin
    rw [howed c (Fin.last _)]
    icases HO with ⟨%W, -, HO⟩; iexists W; iexact HO

/-- The two calls' segments. -/
def seg1 : RegionSeg (pcfgs (F := F)) adm (pdats m) () defs₀ Variants.none noLevels levelZero 0 :=
  callSeg (pdats m) 0 launch0 (fun c => obligation0 (V1 m c) c) (fun _ _ => rfl) (fun _ => rfl) (fun _ _ => rfl) (fun _ _ => rfl) (V1 m)
    (fun _ _ => rfl)
def seg2 : RegionSeg (pcfgs (F := F)) adm (pdats m) () defs₀ Variants.none noLevels levelZero 1 :=
  callSeg (pdats m) 1 launch1 (fun c => obligation1 (mid m c) c) (fun _ _ => rfl) (fun _ => rfl) (fun _ _ => rfl) (fun _ _ => rfl) (mid m)
    (fun _ _ => rfl)

/-- What a core owes: nothing. -/
abbrev owesNone (_ : Fin 3) (c : Dev nD) : sProp 𝕄 := iprop(∃ W, owes (c : Thread nD τ) (0 : CellTallies nD τ sig Unit) W)

/-- The host operation leaves what the first call is entered with. -/
theorem seg1_pre (c : Dev nD) : iprop(StableHlo.held (c : Thread nD τ) (Pipeline.ucRefs τ sig) (V1 m c) ∗ owesNone 0 c) ⊢ (seg1 m).pre c := by
  have e := Pipeline.unscopedBufs_held (Ix := Unit) (Name := ℕ) (U := UR sig nD τ) (Lvl := ℕ) c (V1 m c)
  exact sep_mono (Entails.of_eq e.symm) .rfl
/-- The second call leaves what the program ends with. -/
theorem seg2_post (c : Dev nD) : (seg2 m).post c ⊢ iprop(StableHlo.held (c : Thread nD τ) (Pipeline.ucRefs τ sig) (fin m c) ∗ owesNone 2 c) := by
  have e := Pipeline.unscopedBufs_held (Ix := Unit) (Name := ℕ) (U := UR sig nD τ) (Lvl := ℕ) c (fin m c)
  exact sep_mono (Entails.of_eq e) .rfl

/-! ## The run -/

set_option backward.isDefEq.respectTransparency.types false in
/-- Every run of the program ends, with every unscoped buffer as the second call leaves it and every counter at zero. -/
theorem run_main (g : Dev nD → PrngReg) :
    θ_run defs (onTc (τ := τ) (main (F := F))) ⟨m, fun _ => 0, g⟩ (fun r =>
      (∀ c : Dev nD, ∀ b : Ref sig .tc, b.isScoped = false → r.2.mem ((c.tc : Thread nD τ).loc b) = fin m c b)
      ∧ r.2.sem = fun _ => 0) := by
  refine Pipeline.θ_run_regions_kit_dev_sems (pcfgs (F := F)) adm (pdats m) () cellOf_inj (emb₁ : Emb _ 𝕄) defs₀ Variants.none noLevels levelZero m g main
    (segs m Variants.none noLevels levelZero owesNone () (pdats m) (seg1 m) (seg2 m))
    (fun c Q => by
      rewrite [main_chain c, Seg.run_eq_chain,
        show (segs m Variants.none noLevels levelZero owesNone () (pdats m) (seg1 m) (seg2 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0 (fun _ _ => rfl)
    (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ owesNone 0 c))
    (Tₙ := fun c => StableHlo.held (c : Thread nD τ) (Pipeline.ucRefs τ sig) (fin m c))
    (hch := fun c => ⟨.rfl, ?_, ?_, ?_⟩)
    (hinit := ?_)
    (QY := fun c s => ∀ b : Ref sig .tc, b.isScoped = false → s.mem ((c.tc : Thread nD τ).loc b) = fin m c b)
    (hfin := fun c s' => ?_) (hQ := fun _ h hz => ⟨h, funext fun g => hz g (.inr (regions_no_unscoped g.2))⟩)
  · iintro Hu
    imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · exact seg1_pre m c
  · exact .rfl
  · exact seg2_post m c
  · refine Pipeline.initEach noLevels levelZero fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (fin m c) s') $$ [Hh HSI]
    · isplitl [Hh] <;> iassumption
    icases Hr with ⟨%h, HSI⟩
    imodintro
    isplitr
    · ipureintro
      exact fun b hb => h (Proc.devRef .tc b) (Pipeline.devRef_mem_ucRefs hb)
    · iexact HSI

/-- The frame: every run ends with the arguments as launched and every counter at zero. -/
theorem run_frame (g : Dev nD → PrngReg) :
    θ_run defs (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_mono (run_main m g) (fun r h => ⟨fun c =>
    ⟨(h.1 c main_arg0 rfl).trans (fin_launch m c (by decide)), (h.1 c main_arg1 rfl).trans (fin_launch m c (by decide)),
     (h.1 c main_arg2 rfl).trans (fin_launch m c (by decide)), (h.1 c main_arg3 rfl).trans (fin_launch m c (by decide))⟩, h.2⟩)

end Cert.KernelIdeal.Hand
-- ==== Proof.Kernel.Same.lean ====
/- The kernel and the ideal kernel are one text printed twice, so what is proved of the second for every reading
of the floats holds of the first. -/
module

public import proofs.«01_k».proof.Defs
public import proofs.«01_k».proof.Proof.Gen.Kernel
public import proofs.«01_k».proof.Proof.KernelIdeal.Run

@[expose] public section

noncomputable section

namespace Cert.Kernel.Hand

open Idealize.ShloMosaic Idealize.SL.Sem

variable {F : FTy → Type} [FloatOps F]

local instance : Cert.Kernel.Facts := Cert.Kernel.Gen.facts
local instance : Cert.KernelIdeal.Facts := Cert.KernelIdeal.Gen.facts

/-- The host programs are the same. -/
theorem main_same : Cert.Kernel.main (F := F) = Cert.KernelIdeal.main (F := F) := rfl

/-- The bodies that the two calls run at a grid step are the same. -/
theorem bodies_same : Cert.Kernel.defs₀ (F := F) = Cert.KernelIdeal.defs₀ (F := F) := by
  unfold Cert.Kernel.defs₀ Cert.KernelIdeal.defs₀
  refine congrArg Defs.onTc (funext fun call => funext fun args => ?_)
  fin_cases call <;> rfl

/-- So are the pipelines around them. -/
theorem defs_same : Cert.Kernel.defs (F := F) = Cert.KernelIdeal.defs (F := F) :=
  congrArg (Pipeline.defs (Cert.Kernel.pcfgs (F := F))) bodies_same

/-- The kernel's frame: every run ends with the arguments as launched and every counter at zero. -/
theorem run_frame : Cert.quiescent_Kernel := by
  intro m g _
  rw [defs_same, main_same]
  exact Cert.KernelIdeal.Hand.run_frame m g

end Cert.Kernel.Hand
-- ==== Proof.Value.FirstMax.lean ====
/- The first position of a row's maximum, found from left to right element by element or block by block. -/
module

public import Idealize.ShloMosaic.PureOps.Ideal
public import Idealize.ShloMosaic.PureOps.Ideal.Laws

@[expose] public section

namespace Cert.Value

open Idealize.ShloMosaic

/-! ## Folds of an operation that chooses one of its operands -/

/-- The result of a fold of such an operation is the initial value or one of the elements. -/
theorem fold_mem {ι α : Type} (op : α → α → α) [Std.Commutative op] [Std.Associative op] (hop : ∀ a b, op a b = a ∨ op a b = b)
    (s : Finset ι) (init : α) (f : ι → α) : s.fold op init f = init ∨ ∃ k ∈ s, s.fold op init f = f k := by
  classical
  induction s using Finset.induction_on with
  | empty => exact .inl rfl
  | insert k s hk ih =>
    rw [Finset.fold_insert hk]
    rcases hop (f k) (s.fold op init f) with e | e
    · exact .inr ⟨k, Finset.mem_insert_self _ _, e⟩
    · rcases ih with h | ⟨k', hk', h⟩
      · exact .inl (e.trans h)
      · exact .inr ⟨k', Finset.mem_insert_of_mem hk', e.trans h⟩

/-- A fold of the maximum from minus infinity bounds every element, and over a set that is not empty is one of them. -/
theorem fold_max {ι : Type} (s : Finset ι) (f : ι → EReal) :
    (∀ k ∈ s, f k ≤ s.fold max ⊥ f) ∧ (s.Nonempty → ∃ k ∈ s, s.fold max ⊥ f = f k) := by
  have hle : ∀ k ∈ s, f k ≤ s.fold max ⊥ f := fun k hk => (Finset.le_fold_max _).mpr (.inr ⟨k, hk, le_rfl⟩)
  refine ⟨hle, fun ⟨k₀, h₀⟩ => ?_⟩
  rcases fold_mem (max : EReal → EReal → EReal) (fun a b => max_choice a b) s ⊥ f with h | h
  · exact ⟨k₀, h₀, le_antisymm (h.trans_le bot_le) (hle k₀ h₀)⟩
  · exact h

/-- The signed minimum of two words is one of them, and is above neither. -/
theorem minsi_spec (a b : BitVec 32) : (IntOp.minsi a b = a ∨ IntOp.minsi a b = b)
    ∧ (IntOp.minsi a b).toInt ≤ a.toInt ∧ (IntOp.minsi a b).toInt ≤ b.toInt := by
  unfold IntOp.minsi
  have h := BitVec.slt_iff_toInt_lt (x := a) (y := b)
  split_ifs with hs
  · exact ⟨.inl rfl, le_rfl, (h.mp hs).le⟩
  · exact ⟨.inr rfl, not_lt.mp fun hc => hs (h.mpr hc), le_rfl⟩

/-- A fold of the signed minimum is above no element. -/
theorem fold_minsi_le {ι : Type} (s : Finset ι) (init : BitVec 32) (f : ι → BitVec 32) :
    (∀ k ∈ s, (s.fold IntOp.minsi init f).toInt ≤ (f k).toInt) := by
  classical
  induction s using Finset.induction_on with
  | empty => simp
  | insert k s hk ih =>
    rw [Finset.fold_insert hk]
    intro k' hk'
    rcases Finset.mem_insert.mp hk' with rfl | h
    · exact (minsi_spec _ _).2.1
    · exact (minsi_spec _ _).2.2.trans (ih k' h)

/-! ## The maximum so far and its first position -/

/-- Among the first `n` elements `b` is the maximum, minus infinity if there are none, and `i` its first position; where
    all are minus infinity the position is zero. -/
def FirstMax (g : ℕ → EReal) (n : ℕ) (b : EReal) (i : ℕ) : Prop :=
  (∀ k < n, g k ≤ b) ∧ ((b = ⊥ ∧ i = 0) ∨ (i < n ∧ g i = b ∧ ∀ k < i, g k < b))

namespace FirstMax
variable {g : ℕ → EReal} {n : ℕ} {b : EReal} {i : ℕ}

theorem zero : FirstMax g 0 ⊥ 0 := ⟨fun _ h => absurd h (Nat.not_lt_zero _), .inl ⟨rfl, rfl⟩⟩

theorem bound (h : FirstMax g n b i) (k : ℕ) (hk : k < n) : g k ≤ b := h.1 k hk

theorem pos_lt (h : FirstMax g n b i) (hb : b ≠ ⊥) : i < n := by
  rcases h.2 with ⟨e, _⟩ | ⟨h1, _⟩
  · exact absurd e hb
  · exact h1

theorem pos_zero (h : FirstMax g n ⊥ i) : i = 0 := by
  rcases h.2 with ⟨_, e⟩ | ⟨_, _, h3⟩
  · exact e
  · rcases Nat.eq_zero_or_pos i with e | e
    · exact e
    · exact absurd (h3 0 e) not_lt_bot

theorem pos_le (h : FirstMax g n b i) : i ≤ n := by
  by_cases hb : b = ⊥
  · subst hb; rw [h.pos_zero]; exact Nat.zero_le _
  · exact (h.pos_lt hb).le

/-- The next `l` elements, of which `m` is the maximum and `a` the first position of it. -/
theorem block (h : FirstMax g n b i) {l a : ℕ} {m : EReal} (hm : ∀ k < l, g (n + k) ≤ m) (ha : a < l) (hat : g (n + a) = m)
    (hfirst : ∀ k < a, g (n + k) < m) : FirstMax g (n + l) (max b m) (if b < m then n + a else i) := by
  refine ⟨fun k hk => ?_, ?_⟩
  · by_cases hkn : k < n
    · exact (h.1 k hkn).trans (le_max_left _ _)
    · have := hm (k - n) (by omega)
      rw [show n + (k - n) = k by omega] at this
      exact this.trans (le_max_right _ _)
  · by_cases hlt : b < m
    · rw [if_pos hlt, max_eq_right hlt.le]
      refine .inr ⟨by omega, hat, fun k hk => ?_⟩
      by_cases hkn : k < n
      · exact (h.1 k hkn).trans_lt hlt
      · have := hfirst (k - n) (by omega)
        rwa [show n + (k - n) = k by omega] at this
    · rw [if_neg hlt, max_eq_left (not_lt.mp hlt)]
      rcases h.2 with e | ⟨h1, h2⟩
      · exact .inl e
      · exact .inr ⟨by omega, h2⟩

/-- The next element. -/
theorem step (h : FirstMax g n b i) : FirstMax g (n + 1) (max b (g n)) (if b < g n then n else i) := by
  refine h.block (l := 1) (a := 0) (fun k hk => ?_) Nat.one_pos rfl fun k hk => absurd hk (Nat.not_lt_zero _)
  rw [show k = 0 by omega]; exact le_rfl

/-- The maximum and its first position are what they are. -/
theorem unique (h : FirstMax g n b i) {b' : EReal} {i' : ℕ} (h' : FirstMax g n b' i') : b = b' ∧ i = i' := by
  have key : ∀ {b b' : EReal} {i i' : ℕ}, FirstMax g n b i → FirstMax g n b' i' → b ≤ b' := fun {b b' i i'} h h' => by
    rcases h.2 with ⟨e, _⟩ | ⟨h1, h2, _⟩
    · rw [e]; exact bot_le
    · rw [← h2]; exact h'.1 i h1
  have e : b = b' := le_antisymm (key h h') (key h' h)
  subst e
  refine ⟨rfl, ?_⟩
  by_cases hb : b = ⊥
  · subst hb; rw [h.pos_zero, h'.pos_zero]
  · rcases h.2 with ⟨e, _⟩ | ⟨h1, h2, h3⟩
    · exact absurd e hb
    rcases h'.2 with ⟨e, _⟩ | ⟨h1', h2', h3'⟩
    · exact absurd e hb
    rcases Nat.lt_trichotomy i i' with hl | hl | hl
    · exact absurd h2 (h3' i hl).ne
    · exact hl
    · exact absurd h2' (h3 i' hl).ne

/-- Elements at minus infinity past the first `n` change nothing. -/
theorem cut (h : FirstMax g n b i) {n' : ℕ} (hle : n' ≤ n) (hbot : ∀ k, n' ≤ k → k < n → g k = ⊥) : FirstMax g n' b i := by
  refine ⟨fun k hk => h.1 k (by omega), ?_⟩
  by_cases hb : b = ⊥
  · subst hb; exact .inl ⟨rfl, h.pos_zero⟩
  · rcases h.2 with ⟨e, _⟩ | ⟨h1, h2, h3⟩
    · exact absurd e hb
    · refine .inr ⟨?_, h2, h3⟩
      by_contra hc
      exact hb (h2 ▸ hbot i (by omega) h1)

end FirstMax

end Cert.Value
-- ==== Proof.Value.Best.lean ====
/- The best pair of a list by the reference's choice between two: the larger value, at equal values the smaller index. -/
module

public import proofs.«01_k».proof.Proof.Gen.ReferenceIdeal
public import proofs.«01_k».proof.Proof.Value.FirstMax

@[expose] public section

noncomputable section

namespace Cert.ReferenceIdeal.Hand

open Cert.ReferenceIdeal
open Idealize.ShloMosaic

/-- One pair is no better than another: a smaller value, or the same value at an index at least as large. -/
def NoBetter (p q : EReal × BitVec 32) : Prop := p.1 < q.1 ∨ (p.1 = q.1 ∧ q.2.toInt ≤ p.2.toInt)

theorem NoBetter.refl (p : EReal × BitVec 32) : NoBetter p p := .inr ⟨rfl, le_rfl⟩

theorem NoBetter.trans {p q s : EReal × BitVec 32} (h : NoBetter p q) (h' : NoBetter q s) : NoBetter p s := by
  rcases h with h | ⟨h, hi⟩ <;> rcases h' with h' | ⟨h', hi'⟩
  · exact .inl (h.trans h')
  · exact .inl (h' ▸ h)
  · exact .inl (h ▸ h')
  · exact .inr ⟨h.trans h', hi'.trans hi⟩

/-- The reference's choice between two pairs is one of them, and neither is better. -/
theorem choice_spec (p q : EReal × BitVec 32) :
    ((reducer_argmax_f32_i32 (F := Ideal) p q = p ∨ reducer_argmax_f32_i32 (F := Ideal) p q = q)
      ∧ NoBetter p (reducer_argmax_f32_i32 (F := Ideal) p q) ∧ NoBetter q (reducer_argmax_f32_i32 (F := Ideal) p q)) := by
  obtain ⟨a, i⟩ := p
  obtain ⟨b, j⟩ := q
  have hs := BitVec.slt_iff_toInt_lt (x := i) (y := j)
  have e : reducer_argmax_f32_i32 (F := Ideal) (a, i) (b, j)
      = ((if b < a then a else b), (if b < a ∨ (a = b ∧ i.slt j = true) then i else j)) := by
    show (Scalar.select (IntOp.ori (BitVec.ofBool (decide (b < a))) (BitVec.ofBool (decide (a ≠ a)))) a b,
      Scalar.select (IntOp.ori (IntOp.ori (BitVec.ofBool (decide (b < a))) (BitVec.ofBool (decide (a ≠ a))))
        (IntOp.andi (BitVec.ofBool (decide (a = b))) (BitVec.ofBool (i.slt j)))) i j) = _
    have hne : decide (a ≠ a) = false := decide_eq_false (by simp)
    have hv : ∀ x : Bool, IntOp.ori (BitVec.ofBool x) (BitVec.ofBool false) = 1 ↔ x = true := by decide
    have hi : ∀ x y z : Bool, IntOp.ori (IntOp.ori (BitVec.ofBool x) (BitVec.ofBool false)) (IntOp.andi (BitVec.ofBool y) (BitVec.ofBool z)) = 1
      ↔ x = true ∨ (y = true ∧ z = true) := by decide
    rw [hne]
    unfold Scalar.select
    simp only [hv, hi, decide_eq_true_eq]
  rw [e]
  unfold NoBetter
  rcases lt_trichotomy a b with h | h | h
  · rw [if_neg h.not_gt, if_neg (by rintro (h' | ⟨h', _⟩); exacts [h.not_gt h', h.ne h'])]
    exact ⟨.inr rfl, .inl h, .inr ⟨rfl, le_rfl⟩⟩
  · subst h
    rw [if_neg (lt_irrefl _)]
    by_cases h3 : i.slt j = true
    · rw [if_pos (.inr ⟨rfl, h3⟩)]
      exact ⟨.inl rfl, .inr ⟨rfl, le_rfl⟩, .inr ⟨rfl, (hs.mp h3).le⟩⟩
    · rw [if_neg (by rintro (h' | ⟨_, h'⟩); exacts [lt_irrefl _ h', h3 h'])]
      exact ⟨.inr rfl, .inr ⟨rfl, not_lt.mp fun hc => h3 (hs.mpr hc)⟩, .inr ⟨rfl, le_rfl⟩⟩
  · rw [if_pos h, if_pos (.inl h)]
    exact ⟨.inl rfl, .inr ⟨rfl, le_rfl⟩, .inl h⟩

/-- The choice along a list: one of the initial pair and the list's, none of which is better. -/
theorem best_spec (l : List (EReal × BitVec 32)) : ∀ p : EReal × BitVec 32,
    (l.foldl (reducer_argmax_f32_i32 (F := Ideal)) p = p ∨ l.foldl (reducer_argmax_f32_i32 (F := Ideal)) p ∈ l)
      ∧ NoBetter p (l.foldl (reducer_argmax_f32_i32 (F := Ideal)) p)
      ∧ ∀ q ∈ l, NoBetter q (l.foldl (reducer_argmax_f32_i32 (F := Ideal)) p) := by
  induction l with
  | nil => exact fun p => ⟨.inl rfl, .refl p, fun q hq => absurd hq List.not_mem_nil⟩
  | cons s l ih =>
    intro p
    obtain ⟨hc, hp, hs⟩ := choice_spec p s
    obtain ⟨h1, h2, h3⟩ := ih (reducer_argmax_f32_i32 (F := Ideal) p s)
    rw [List.foldl_cons]
    refine ⟨?_, hp.trans h2, fun q hq => ?_⟩
    · rcases h1 with h1 | h1
      · rcases hc with hc | hc
        · exact .inl (h1.trans hc)
        · exact .inr (by rw [h1, hc]; exact List.mem_cons_self)
      · exact .inr (List.mem_cons_of_mem _ h1)
    · rcases List.mem_cons.mp hq with rfl | hq
      · exact hs.trans h2
      · exact h3 q hq

/-- The choice along a list of a row's elements, each with its position, is the row's maximum with its first position. -/
theorem best_first (g : ℕ → EReal) (n : ℕ) (hn : n < 2 ^ 31) (l : List (EReal × BitVec 32))
    (hl : ∀ q, q ∈ l ↔ ∃ k < n, q = (g k, BitVec.ofNat 32 k)) :
    ∃ (i : ℕ) (b : EReal), l.foldl (reducer_argmax_f32_i32 (F := Ideal)) (⊥, 0#32) = (b, BitVec.ofNat 32 i)
      ∧ Cert.Value.FirstMax g n b i := by
  have int : ∀ k < n, (BitVec.ofNat 32 k).toInt = k := fun k hk => by
    rw [BitVec.toInt_eq_toNat_of_lt] <;> rw [BitVec.toNat_ofNat] <;> omega
  obtain ⟨h1, h2, h3⟩ := best_spec l (⊥, 0#32)
  generalize l.foldl (reducer_argmax_f32_i32 (F := Ideal)) (⊥, 0#32) = f at h1 h2 h3
  have bound : ∀ k < n, g k ≤ f.1 := fun k hk => by
    rcases h3 _ ((hl _).mpr ⟨k, hk, rfl⟩) with h | ⟨h, _⟩
    · exact h.le
    · exact h.le
  rcases h1 with rfl | hm
  · exact ⟨0, ⊥, rfl, bound, .inl ⟨rfl, rfl⟩⟩
  · obtain ⟨i, hi, rfl⟩ := (hl _).mp hm
    refine ⟨i, g i, rfl, bound, ?_⟩
    by_cases hb : g i = ⊥
    · refine .inl ⟨hb, ?_⟩
      rcases h2 with h | ⟨_, h⟩
      · exact absurd (hb ▸ h : (⊥ : EReal) < ⊥) (lt_irrefl _)
      · have h' : (BitVec.ofNat 32 i).toInt ≤ (0#32).toInt := h
        rw [int i hi] at h'
        have : (0#32).toInt = 0 := by decide
        omega
    · refine .inr ⟨hi, rfl, fun k hk => lt_of_le_of_ne (bound k (hk.trans hi)) fun hc => ?_⟩
      rcases h3 _ ((hl _).mpr ⟨k, hk.trans hi, rfl⟩) with h | ⟨_, h⟩
      · exact absurd hc h.ne
      · have h' : (BitVec.ofNat 32 i).toInt ≤ (BitVec.ofNat 32 k).toInt := h
        rw [int i hi, int k (hk.trans hi)] at h'
        omega

end Cert.ReferenceIdeal.Hand
-- ==== Proof.Value.Rows.lean ====
/- The rows the two programs work on, as functions of the arguments: the masked logits and the perturbed logits, minus
   infinity past the last column. -/
module

public import Idealize.ShloMosaic.Lib.ValueIdx
public import Idealize.ShloMosaic.PureOps.Ideal.Laws

@[expose] public section

noncomputable section

namespace Cert.Value

open Idealize.ShloMosaic Idealize.ShloMosaic.ValueIdx

/-- The shape of the arguments. -/
abbrev Full : Shape := ⟨2, ![32, 1000000]⟩

/-- Row `r` of the logits, minus infinity where the mask is off and past the last column. -/
def maskedRow (x : Full.Idx → EReal) (w : Full.Idx → BitVec 1) (r : Fin 32) (k : ℕ) : EReal :=
  if h : k < 1000000 then (if w (ix2 r ⟨k, h⟩) = 1#1 then x (ix2 r ⟨k, h⟩) else ⊥) else ⊥

/-- The Gumbel noise of one uniform sample. -/
def noise (u : EReal) : EReal :=
  -Ideal.log (-Ideal.log (u * Ideal.ofBits .f32 0x3F7FFFFD#32 + Ideal.ofBits .f32 0x33D6BF95#32))

/-- Row `r` of the masked logits plus the noise, minus infinity past the last column. -/
def perturbedRow (x : Full.Idx → EReal) (w : Full.Idx → BitVec 1) (u : Full.Idx → EReal) (r : Fin 32) (k : ℕ) : EReal :=
  if h : k < 1000000 then maskedRow x w r k + noise (u (ix2 r ⟨k, h⟩)) else ⊥

theorem perturbedRow_past (x : Full.Idx → EReal) (w : Full.Idx → BitVec 1) (u : Full.Idx → EReal) (r : Fin 32) {k : ℕ}
    (h : 1000000 ≤ k) : perturbedRow x w u r k = ⊥ := dif_neg (not_lt.mpr h)

theorem maskedRow_past (x : Full.Idx → EReal) (w : Full.Idx → BitVec 1) (r : Fin 32) {k : ℕ}
    (h : 1000000 ≤ k) : maskedRow x w r k = ⊥ := dif_neg (not_lt.mpr h)

/-- The two infinities as the programs write them. -/
theorem ofBits_neg_inf : Ideal.ofBits .f32 0xFF800000#32 = ⊥ := by simp [Ideal.ofBits, Ideal.ieee]
theorem ofBits_pos_inf : Ideal.ofBits .f32 0x7F800000#32 = ⊤ := by simp [Ideal.ofBits, Ideal.ieee]
/-- One as the programs write it. -/
theorem ofBits_one : Ideal.ofBits .f32 0x3F800000#32 = 1 := by
  simp [Ideal.ofBits, Ideal.ieee, -EReal.coe_mul]; norm_num

end Cert.Value
-- ==== Proof.Value.Reference.lean ====
/- What the reference's two results hold at a row: the softmax about the row's maximum, and the first position of the
   perturbed logits' maximum. -/
module

public import proofs.«01_k».proof.Proof.Reference.Run
public import proofs.«01_k».proof.Proof.Value.Best
public import proofs.«01_k».proof.Proof.Value.Rows
public import Idealize.ShloMosaic.Lib.Pipeline.Value

@[expose] public section

noncomputable section

namespace Cert.ReferenceIdeal.Hand

open Cert.ReferenceIdeal Cert.ReferenceIdeal.Gen Cert.Value
open Idealize.ShloMosaic Idealize.ShloMosaic.TcCoe
open Idealize.ShloMosaic.ValueIdx (ix1 ix2)

/-- The shape fact of a reduction along the columns. -/
theorem along : S32x1000000.Reduces [1] S32 := by decide

theorem lift_row (r : Fin 32) (k : Fin 1000000) : along.lift (ix1 r) k = ix2 r k := by
  funext a
  match a with
  | ⟨0, _⟩ => rfl
  | ⟨1, _⟩ => rfl

variable (x u y : FVec Ideal S32x1000000 .f32) (w : IVec S32x1000000 1) (r : Fin 32) (k : Fin 1000000)

/-- The masked logits. -/
theorem masked_apply : masked x w (ix2 r k) = maskedRow x w r k.val := by
  unfold maskedRow
  rw [dif_pos k.isLt]
  show Scalar.select (w (ix2 r k)) (x (ix2 r k)) (Ideal.ofBits .f32 0xFF800000#32) = _
  rw [ofBits_neg_inf]
  rfl

/-- The perturbed logits. -/
theorem perturbed_apply : addf (masked x w) (gumbel u) (ix2 r k) = perturbedRow x w u r k.val := by
  unfold perturbedRow
  rw [dif_pos k.isLt, ← masked_apply]
  rfl

/-- A row's maximum. -/
def top : EReal := Finset.univ.fold max ⊥ fun k : Fin 1000000 => y (ix2 r k)

/-- The reduction by the maximum, at a row. -/
theorem reduceMax_apply : Host.reduce FloatOps.maximumf y (constant S_ .f32 0xFF800000#32) reducesTo_S32x1000000_S32_d1 h_S_ (ix1 r)
    = top y r := by
  have e : ∀ k : Fin 1000000, y (along.lift (ix1 r) k) = y (ix2 r k) := fun k => by rw [lift_row]
  refine (Host.reduce_eq_fold_single (f := (max : EReal → EReal → EReal)) y _ _ along _ (ix1 r)).trans ?_
  unfold top
  rw [show (constant S_ .f32 0xFF800000#32 (Shape.Idx.first h_S_) : Ideal .f32) = (⊥ : EReal) from ofBits_neg_inf]
  exact Finset.fold_congr fun k _ => e k

/-- A value of every row, at every column. -/
theorem overColumns_apply {α : Type} (z : S32.Idx → α) : broadcastInDim S32x1000000 ![0, 1] bcast_S32x1_S32x1000000_0_1
    (broadcastInDim S32x1 ![0] bcast_S32_S32x1_0 z) (ix2 r k) = z (ix1 r) :=
  (broadcastInDim_apply _ _ _ _ (ix2 r (0 : Fin 1)) (fun a => by match a with | ⟨0, _⟩ => rfl | ⟨1, _⟩ => rfl)).trans
    (broadcastInDim_apply _ _ _ _ (ix1 r) (fun a => by match a with | ⟨0, _⟩ => rfl))

theorem rowMax_apply : rowMax y (ix2 r k) = top y r := by
  have hb : broadcastInDim S32 ![] bcast_S_S32 (constant (F := Ideal) S_ .f32 0xFF800000#32) (ix1 r) = (⊥ : EReal) := ofBits_neg_inf
  unfold rowMax
  rw [overColumns_apply, ValueIdx.maximumf_apply, hb, reduceMax_apply]
  exact max_eq_right bot_le

/-- The exponentials. -/
theorem shifted_apply : shifted y (ix2 r k) = Ideal.exp (y (ix2 r k) - top y r) := by
  have e : ∀ a b : FVec Ideal S32x1000000 .f32, Host.exp (subf a b) (ix2 r k) = Ideal.exp (a (ix2 r k) - b (ix2 r k)) := fun _ _ => rfl
  unfold shifted
  rw [e, rowMax_apply]

/-- The reduction by addition, at a row. -/
theorem reduceAdd_apply : Host.reduceAdd y (constant S_ .f32 0x00000000#32) reducesTo_S32x1000000_S32_d1 h_S_ (ix1 r)
    = ∑ l : Fin 1000000, y (ix2 r l) := by
  have e : ∀ k : Fin 1000000, y (along.lift (ix1 r) k) = y (ix2 r k) := fun k => by rw [lift_row]
  refine (Ideal.hostReduceAdd_single _ along y _ (ix1 r)).trans ?_
  have hz : constant (F := Ideal) S_ .f32 0x00000000#32 (Shape.Idx.first h_S_) = (0 : EReal) := Ideal.ofBits_zero_f32
  rw [hz, zero_add]
  exact Finset.sum_congr rfl fun l _ => e l

/-- The softmax. -/
theorem softmax_apply : softmax y (ix2 r k)
    = Ideal.div (Ideal.exp (y (ix2 r k) - top y r)) (∑ l : Fin 1000000, Ideal.exp (y (ix2 r l) - top y r)) := by
  have e : ∀ a b : FVec Ideal S32x1000000 .f32, Host.divf a b (ix2 r k) = Ideal.div (a (ix2 r k)) (b (ix2 r k)) := fun _ _ => rfl
  unfold softmax
  rw [e, shifted_apply, overColumns_apply, reduceAdd_apply]
  exact congrArg (Ideal.div _) (Finset.sum_congr rfl fun l _ => shifted_apply y r l)

/-- The positions. -/
theorem argmax_first (v : Fin 1) (g : ℕ → EReal) (hg : ∀ k : Fin 1000000, y (ix2 r k) = g k.val) :
    ∃ (i : ℕ) (b : EReal), argmax y (ix2 r v) = BitVec.ofNat 32 i ∧ FirstMax g 1000000 b i := by
  obtain ⟨i, b, e, h⟩ := best_first g 1000000 (by decide)
    (Host.argReduceFiber y (iotaInDim S32x1000000 32 1) reducesTo_S32x1000000_S32_d1 (ix1 r)) fun q => by
      unfold Host.argReduceFiber
      simp only [List.mem_map, List.mem_filter, List.mem_finRange, true_and, decide_eq_true_eq]
      constructor
      · rintro ⟨n, hn, rfl⟩
        rw [Shape.ReducesTo.drop_eq_drop _ along] at hn
        refine ⟨(S32x1000000.rowMajor.symm n 1).val, (S32x1000000.rowMajor.symm n 1).isLt, ?_⟩
        refine Prod.ext ?_ rfl
        have := along.lift_drop (S32x1000000.rowMajor.symm n)
        rw [hn] at this
        exact (congrArg y this.symm).trans ((congrArg y (lift_row r (S32x1000000.rowMajor.symm n 1))).trans
          (hg (S32x1000000.rowMajor.symm n 1)))
      · rintro ⟨k, hk, rfl⟩
        refine ⟨S32x1000000.rowMajor (ix2 r ⟨k, hk⟩), ?_, ?_⟩
        · rw [Shape.ReducesTo.drop_eq_drop _ along, Equiv.symm_apply_apply]
          exact (congrArg along.drop (lift_row r ⟨k, hk⟩).symm).trans (along.drop_lift (ix1 r) _)
        · rw [Equiv.symm_apply_apply, hg]; rfl
  refine ⟨i, b, ?_, h⟩
  unfold argmax
  refine (broadcastInDim_apply _ _ _ _ (ix1 r) (fun a => by match a with | ⟨0, _⟩ => rfl)).trans ?_
  rw [Ideal.argReduce_eq_reduce2, Host.reduce2_eq_foldl_fiber]
  rw [show (constant S_ .f32 0xFF800000#32 (Shape.Idx.first h_S_) : Ideal .f32) = (⊥ : EReal) from ofBits_neg_inf]
  exact congrArg Prod.snd e

end Cert.ReferenceIdeal.Hand
-- ==== Proof.Value.Softmax.lean ====
/- The softmax on the extended reals: dividing the exponentials by their sum gives the same whether or not the row's
   maximum, if it is a real number, is subtracted first. -/
module

public import Idealize.ShloMosaic.PureOps.Ideal
public import Idealize.ShloMosaic.PureOps.Ideal.Laws
public import Mathlib.Algebra.BigOperators.Field

@[expose] public section

noncomputable section

namespace Cert.Value

open Idealize.ShloMosaic

/-- The exponential of an extended real below infinity is a real number that is not negative. -/
theorem exp_real {x : EReal} (h : x ≠ ⊤) : ∃ a : ℝ, 0 ≤ a ∧ Ideal.exp x = (a : EReal) := by
  induction x with
  | bot => exact ⟨0, le_rfl, rfl⟩
  | top => exact absurd rfl h
  | coe r => exact ⟨Real.exp r, (Real.exp_pos r).le, rfl⟩

/-- Subtracting a real number under the exponential divides the exponential by that number's. -/
theorem exp_sub_real {x : EReal} (h : x ≠ ⊤) (m a : ℝ) (ha : Ideal.exp x = (a : EReal)) :
    Ideal.exp (x - (m : EReal)) = ((a * Real.exp (-m) : ℝ) : EReal) := by
  induction x with
  | bot =>
    have : a = 0 := by
      have h0 : ((0 : ℝ) : EReal) = (a : EReal) := ha
      exact (EReal.coe_injective h0).symm
    rw [EReal.bot_sub, this, zero_mul]; rfl
  | top => exact absurd rfl h
  | coe r =>
    have e : Real.exp r = a := EReal.coe_injective ha
    rw [← EReal.coe_sub, ← e, ← Real.exp_add, ← sub_eq_add_neg]; rfl

/-- A sum of real numbers is the same among the extended reals. -/
theorem sum_real {ι : Type} (s : Finset ι) (f : ι → EReal) (a : ι → ℝ) (h : ∀ k ∈ s, f k = (a k : EReal)) :
    ∑ k ∈ s, f k = ((∑ k ∈ s, a k : ℝ) : EReal) := by
  classical
  induction s using Finset.induction_on with
  | empty => simp
  | insert k s hk ih =>
    rw [Finset.sum_insert hk, Finset.sum_insert hk, EReal.coe_add, h k (Finset.mem_insert_self _ _),
      ih fun k' hk' => h k' (Finset.mem_insert_of_mem hk')]

/-- A quotient of real numbers, the divisor above zero, is the same among the extended reals. -/
theorem div_real (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- The softmax of a row whose maximum is the real number `m`: an exponential times the inverse of their sum is the
    exponential of the difference from `m`, divided by the sum of those. -/
theorem softmax_row {n : ℕ} (f : Fin n → EReal) (m : ℝ) (hle : ∀ k, f k ≤ (m : EReal)) (hatt : ∃ k, f k = (m : EReal)) (j : Fin n) :
    Ideal.exp (f j) * Ideal.div 1 (∑ k, Ideal.exp (f k))
      = Ideal.div (Ideal.exp (f j - (m : EReal))) (∑ k, Ideal.exp (f k - (m : EReal))) := by
  have htop : ∀ k, f k ≠ ⊤ := fun k h => by have := hle k; rw [h] at this; exact absurd this (by simp)
  choose a ha0 ha using fun k => exp_real (htop k)
  obtain ⟨k₀, hk₀⟩ := hatt
  have hak : 0 < a k₀ := by
    have : ((Real.exp m : ℝ) : EReal) = (a k₀ : EReal) := by rw [← ha k₀, hk₀]; rfl
    rw [← EReal.coe_injective this]; exact Real.exp_pos m
  have hpos : 0 < ∑ k, a k := Finset.sum_pos' (fun k _ => ha0 k) ⟨k₀, Finset.mem_univ _, hak⟩
  have hc : 0 < Real.exp (-m) := Real.exp_pos _
  rw [sum_real _ _ a fun k _ => ha k, sum_real _ _ (fun k => a k * Real.exp (-m)) fun k _ => exp_sub_real (htop k) m (a k) (ha k),
    exp_sub_real (htop j) m (a j) (ha j), ha j, ← EReal.coe_one, div_real _ _ hpos, ← Finset.sum_mul, div_real _ _ (mul_pos hpos hc),
    ← EReal.coe_mul]
  congr 1
  field_simp

end Cert.Value
-- ==== Proof.Value.Equation.lean ====
/- The equation: where every row's masked maximum is finite, the exponentials times the inverse of their sum are the
   reference's softmax. -/
module

public import proofs.«01_k».proof.Pre_rows_have_a_finite_maximum
public import proofs.«01_k».proof.Proof.Value.Reference
public import proofs.«01_k».proof.Proof.Value.Softmax

@[expose] public section

noncomputable section

namespace Cert.ReferenceIdeal.Hand

open Cert.ReferenceIdeal Cert.ReferenceIdeal.Gen Cert.Value
open Idealize.ShloMosaic Idealize.ShloMosaic.TcCoe
open Idealize.ShloMosaic.ValueIdx (ix1 ix2)

/-- The shape facts the precondition states. -/
theorem preFacts : Cert.Pre_rows_have_a_finite_maximum.Facts :=
  ⟨bcast_S_S32x1000000, reducesTo_S32x1000000_S32_d1, h_S_, bcast_S_S32⟩

/-- Two strict comparisons joined. -/
theorem between (a b d : FVec Ideal S32 .f32) (j : S32.Idx) (h : andi (cmpf .ogt a b) (cmpf .olt a d) j = 1#1) :
    (b j : EReal) < a j ∧ (a j : EReal) < d j := by
  have hb : ∀ p q : Bool, IntOp.andi (BitVec.ofBool p) (BitVec.ofBool q) = 1#1 → p = true ∧ q = true := by decide
  have h' : IntOp.andi (BitVec.ofBool (decide ((b j : EReal) < a j))) (BitVec.ofBool (decide ((a j : EReal) < d j))) = 1#1 := h
  exact ⟨of_decide_eq_true (hb _ _ h').1, of_decide_eq_true (hb _ _ h').2⟩

variable (x u : FVec Ideal S32x1000000 .f32) (w : IVec S32x1000000 1) (a : IVec S32x1 32)

/-- The precondition says that every row's maximum is finite. -/
theorem top_finite [Cert.Pre_rows_have_a_finite_maximum.Facts] (h : Cert.Pre_rows_have_a_finite_maximum.fn (F := Ideal) x w u a = fun _ => 1#1) (r : Fin 32) :
    ⊥ < top (masked x w) r ∧ top (masked x w) r < ⊤ := by
  have h' := between (Host.reduce FloatOps.maximumf (masked x w) (constant S_ .f32 0xFF800000#32) reducesTo_S32x1000000_S32_d1 h_S_)
    (broadcastInDim S32 ![] bcast_S_S32 (constant S_ .f32 0xFF800000#32))
    (broadcastInDim S32 ![] bcast_S_S32 (constant S_ .f32 0x7F800000#32)) (ix1 r) (congrFun h (ix1 r))
  have hb : broadcastInDim S32 ![] bcast_S_S32 (constant (F := Ideal) S_ .f32 0xFF800000#32) (ix1 r) = (⊥ : EReal) := ofBits_neg_inf
  have ht : broadcastInDim S32 ![] bcast_S_S32 (constant (F := Ideal) S_ .f32 0x7F800000#32) (ix1 r) = (⊤ : EReal) := ofBits_pos_inf
  rwa [reduceMax_apply, hb, ht] at h'

/-- The reference's softmax of a row with a finite maximum. -/
theorem softmax_eq (r : Fin 32) (h : ⊥ < top (masked x w) r ∧ top (masked x w) r < ⊤) (k : Fin 1000000) :
    softmax (masked x w) (ix2 r k)
      = Ideal.exp (maskedRow x w r k.val) * Ideal.div 1 (∑ l : Fin 1000000, Ideal.exp (maskedRow x w r l.val)) := by
  obtain ⟨hle, hatt⟩ := fold_max Finset.univ fun k : Fin 1000000 => masked x w (ix2 r k)
  obtain ⟨k₀, -, hk₀⟩ := hatt ⟨k, Finset.mem_univ k⟩
  have e : ((top (masked x w) r).toReal : EReal) = top (masked x w) r := EReal.coe_toReal h.2.ne h.1.ne'
  rw [softmax_apply]
  simp only [masked_apply]
  rw [← e]
  refine (softmax_row (fun k : Fin 1000000 => maskedRow x w r k.val) _ (fun k => ?_) ⟨k₀, ?_⟩ k).symm
  · rw [e, ← masked_apply]; exact hle k (Finset.mem_univ k)
  · rw [e, ← masked_apply]; exact hk₀.symm

/-- The reference's position of a row is that of any first position of the perturbed logits' maximum. -/
theorem argmax_eq (r : Fin 32) (v : Fin 1) {i : ℕ} {b : EReal} (h : FirstMax (perturbedRow x w u r) 1000000 b i) :
    argmax (addf (masked x w) (gumbel u)) (ix2 r v) = BitVec.ofNat 32 i := by
  obtain ⟨i', b', e, h'⟩ := argmax_first (addf (masked x w) (gumbel u)) r v (perturbedRow x w u r) (perturbed_apply x u w r)
  rw [e, (h.unique h').2]

end Cert.ReferenceIdeal.Hand
-- ==== Proof.Value.Lanes.lean ====
/- One block of the first call: its lanes are the rows' elements at the block's columns, and what the block adds to the
   running sums, maxima and positions is the block's part of each row. -/
module

public import proofs.«01_k».proof.Proof.KernelIdeal.Data
public import proofs.«01_k».proof.Proof.Value.Rows
public import proofs.«01_k».proof.Proof.Value.FirstMax
public import Idealize.ShloMosaic.Lib.ValueLayoutCasts

@[expose] public section

noncomputable section

namespace Cert.KernelIdeal.Hand

open Cert.KernelIdeal Cert.KernelIdeal.Gen Cert.Value
open Idealize.ShloMosaic Idealize.ShloMosaic.TcCoe Idealize.ShloMosaic.ValueIdx

/-! ## The blocks' lanes -/

theorem index0_0 : ∀ t : Fin grid0.N, win0_0.index t 0 = 0 ∧ win0_0.index t 1 = t.val := by decide +kernel
theorem index0_1 : ∀ t : Fin grid0.N, win0_1.index t 0 = 0 ∧ win0_1.index t 1 = t.val := by decide +kernel
theorem index0_2 : ∀ t : Fin grid0.N, win0_2.index t 0 = 0 ∧ win0_2.index t 1 = t.val := by decide +kernel

section
variable (V : Valuation τ sig (Elt Ideal)) (t : Fin grid0.N) (j : S32x46080.Idx) (h : t.val * 46080 + (j 1).val < 1000000)

/-- A lane whose column lies within the array holds the array's element there. -/
theorem xBlk_at : xBlk V t j = V main_arg0 (ix2 (j 0) ⟨t.val * 46080 + (j 1).val, h⟩) := by
  unfold xBlk Pipeline.Window.fill
  rw [dif_pos ((win0_0.moved_iff _ j).mpr (lane_lt (extent0_0 t) j h)), View.read_apply]
  refine congrArg (V main_arg0) (funext fun a => Fin.ext ?_)
  match a with
  | ⟨0, _⟩ => show win0_0.index t 0 * 32 + 1 * (j 0).val = (j 0).val; rw [(index0_0 t).1]; omega
  | ⟨1, _⟩ => show win0_0.index t 1 * 46080 + 1 * (j 1).val = t.val * 46080 + (j 1).val; rw [(index0_0 t).2]; omega

theorem wBlk_at : wBlk V t j = V main_call0_v0 (ix2 (j 0) ⟨t.val * 46080 + (j 1).val, h⟩) := by
  unfold wBlk Pipeline.Window.fill
  rw [dif_pos ((win0_1.moved_iff _ j).mpr (lane_lt (extent0_1 t) j h)), View.read_apply]
  refine congrArg (V main_call0_v0) (funext fun a => Fin.ext ?_)
  match a with
  | ⟨0, _⟩ => show win0_1.index t 0 * 32 + 1 * (j 0).val = (j 0).val; rw [(index0_1 t).1]; omega
  | ⟨1, _⟩ => show win0_1.index t 1 * 46080 + 1 * (j 1).val = t.val * 46080 + (j 1).val; rw [(index0_1 t).2]; omega

theorem uBlk_at : uBlk V t j = V main_arg2 (ix2 (j 0) ⟨t.val * 46080 + (j 1).val, h⟩) := by
  unfold uBlk Pipeline.Window.fill
  rw [dif_pos ((win0_2.moved_iff _ j).mpr (lane_lt (extent0_2 t) j h)), View.read_apply]
  refine congrArg (V main_arg2) (funext fun a => Fin.ext ?_)
  match a with
  | ⟨0, _⟩ => show win0_2.index t 0 * 32 + 1 * (j 0).val = (j 0).val; rw [(index0_2 t).1]; omega
  | ⟨1, _⟩ => show win0_2.index t 1 * 46080 + 1 * (j 1).val = t.val * 46080 + (j 1).val; rw [(index0_2 t).2]; omega
end

/-- A mask bit widened to a word is not zero exactly when the bit is on. -/
theorem mask_word (b : BitVec 1) : IntOp.andi (IntOp.cmpi .ne (b.setWidth 32) 0#32) 1#1 = b := by revert b; decide

section
variable (V : Valuation τ sig (Elt Ideal)) (M : IVec S32x1000000 1) (hM : V main_call0_v0 = extui 32 M natLt_1_32)
  (t : Fin grid0.N)
include hM

/-- The block's masked logits. -/
theorem masked_lane (j : S32x46080.Idx) : k0_pay10 (grid0.coords t) (xBlk V t) (wBlk V t) j
    = maskedRow (V main_arg0) M (j 0) (t.val * 46080 + (j 1).val) := by
  unfold k0_pay10 maskedRow
  simp only [select, andi, cmpi]
  have hc := column_ok_iff t j
  by_cases h : t.val * 46080 + (j 1).val < 1000000
  · rw [dif_pos h, hc.mpr h, wBlk_at V t j h, xBlk_at V t j h, hM]
    show Scalar.select (IntOp.andi (IntOp.cmpi .ne ((M _).setWidth 32) 0#32) 1#1) _ (Ideal.ofBits .f32 0xFF800000#32) = _
    rw [mask_word, ofBits_neg_inf]; rfl
  · rw [dif_neg h]
    have h0 : k0_pay9 (grid0.coords t) j = 0#1 := by
      have h1 := fun e => h (hc.mp e)
      generalize k0_pay9 (grid0.coords t) j = b at h1; revert b; decide
    rw [h0, show ∀ b : BitVec 1, IntOp.andi b 0#1 = 0#1 from by decide]
    show Ideal.ofBits .f32 0xFF800000#32 = ⊥
    exact ofBits_neg_inf

/-- The block's perturbed logits. -/
abbrev pertBlk : FVec Ideal S32x46080 .f32 :=
  k0_pay1 (k0_pay9 (grid0.coords t)) (k0_pay10 (grid0.coords t) (xBlk V t) (wBlk V t)) (k0_pay14 (uBlk V t)) k0_pay15

theorem perturbed_lane (j : S32x46080.Idx) : pertBlk V t j
    = perturbedRow (V main_arg0) M (V main_arg2) (j 0) (t.val * 46080 + (j 1).val) := by
  unfold pertBlk k0_pay1 perturbedRow
  simp only [select]
  have hc := column_ok_iff t j
  by_cases h : t.val * 46080 + (j 1).val < 1000000
  · rw [dif_pos h, hc.mpr h]
    show k0_pay10 (grid0.coords t) (xBlk V t) (wBlk V t) j + (Ideal.ofBits .f32 0x00000000#32
      - Ideal.log (Ideal.ofBits .f32 0x00000000#32 - Ideal.log (uBlk V t j * Ideal.ofBits .f32 0x3F7FFFFD#32
        + Ideal.ofBits .f32 0x33D6BF95#32))) = _
    rw [masked_lane V M hM t j, uBlk_at V t j h, Ideal.ofBits_zero_f32]
    unfold noise
    simp only [sub_eq_add_neg, zero_add]
  · rw [dif_neg h, select_off fun e => h (hc.mp e)]
    exact ofBits_neg_inf

end

end Cert.KernelIdeal.Hand
-- ==== Proof.Value.Steps.lean ====
/- What one block of the first call adds to a row's running sum, maximum and position. -/
module

public import proofs.«01_k».proof.Proof.Value.Lanes

@[expose] public section

noncomputable section

namespace Cert.KernelIdeal.Hand

open Cert.KernelIdeal Cert.KernelIdeal.Gen Cert.Value
open Idealize.ShloMosaic Idealize.ShloMosaic.TcCoe Idealize.ShloMosaic.ValueIdx

/-- A row's maximum over one block. -/
def blockMax (P : Fin 46080 → EReal) : EReal := Finset.univ.fold max ⊥ P

theorem le_blockMax (P : Fin 46080 → EReal) (k : Fin 46080) : P k ≤ blockMax P := (fold_max Finset.univ P).1 k (Finset.mem_univ k)

/-- The least lane number among the lanes that hold the block's maximum is that of the first such lane. -/
theorem first_lane (P : Fin 46080 → EReal) :
    ∃ a : Fin 46080, P a = blockMax P ∧ (∀ k : Fin 46080, k.val < a.val → P k < blockMax P)
      ∧ (Finset.univ : Finset (Fin 46080)).fold IntOp.minsi 2147483647#32
          (fun k => if P k = blockMax P then BitVec.ofNat 32 k.val else 46080#32) = BitVec.ofNat 32 a.val := by
  have lane : ∀ k : Fin 46080, (BitVec.ofNat 32 k.val).toInt = k.val := fun k => by
    have := k.isLt
    rw [BitVec.toInt_eq_toNat_of_lt] <;> rw [BitVec.toNat_ofNat] <;> omega
  obtain ⟨k₀, -, hk₀⟩ := (fold_max Finset.univ P).2 ⟨⟨0, by decide⟩, Finset.mem_univ _⟩
  have hle := fold_minsi_le Finset.univ 2147483647#32
    (fun k : Fin 46080 => if P k = blockMax P then BitVec.ofNat 32 k.val else 46080#32)
  have hmem := fold_mem IntOp.minsi (fun a b => (minsi_spec a b).1) Finset.univ 2147483647#32
    (fun k : Fin 46080 => if P k = blockMax P then BitVec.ofNat 32 k.val else 46080#32)
  generalize (Finset.univ : Finset (Fin 46080)).fold IntOp.minsi 2147483647#32
    (fun k => if P k = blockMax P then BitVec.ofNat 32 k.val else 46080#32) = f at hle hmem ⊢
  have hlane : ∀ k : Fin 46080, P k = blockMax P → f.toInt ≤ k.val := fun k hk => by
    have := hle k (Finset.mem_univ k)
    rwa [if_pos hk, lane] at this
  have hf : f.toInt < 46080 := by have := hlane k₀ hk₀.symm; have := k₀.isLt; omega
  rcases hmem with e | ⟨a, -, e⟩
  · rw [e] at hf; exact absurd hf (by decide)
  · split_ifs at e with ha
    · refine ⟨a, ha, fun k hk => lt_of_le_of_ne (le_blockMax P k) fun hc => ?_, e⟩
      have := hlane k hc
      rw [e, lane] at this
      omega
    · rw [e] at hf; exact absurd hf (by decide)

/-- The index a reduction along the columns reads. -/
theorem lift_row (r : Fin 32) (k : Fin 46080) : reduces_S32x46080_S32.lift (ix1 r) k = ix2 r k := by
  funext a
  match a with
  | ⟨0, _⟩ => rfl
  | ⟨1, _⟩ => rfl

section
variable (i : grid0.Coords) (X : Vec Ideal S32x46080 .f32) (W : Vec Ideal S32x46080 .i32) (U : Vec Ideal S32x46080 .f32)
  (r : Fin 32) (u : Fin 1)

/-- The running sum of a row grows by the block's exponentials. -/
theorem sumBlk_apply (s : Vec Ideal S32x1 .f32) : sumBlk i X W s (ix2 r u)
    = s (ix2 r u) + ∑ k : Fin 46080, Ideal.exp (k0_pay10 i X W (ix2 r k)) := by
  unfold sumBlk k0_pay12 k0_pay11
  rw [shapeCast_self]
  show s (ix2 r u) + shapeCast S32x1 _ _ (ix2 r u) = _
  rw [shapeCast_a_a1_apply]
  refine congrArg (s (ix2 r u) + ·) ((Ideal.multiReduction_add_single _ _ _ _ _ _).trans ?_)
  exact (Finset.sum_congr rfl fun k _ => congrArg (fun j => Ideal.exp (k0_pay10 i X W j)) (lift_row r k))

variable (b : Vec Ideal S32x1 .f32) (n : Vec Ideal S32x1 .i32)
variable (v8 : IVec S32x46080 1) (v13 v31 v32 : FVec Ideal S32x46080 .f32)

/-- A row's maximum over the block's perturbed logits. -/
theorem rowMax_apply : k0_pay2 v8 v13 v31 v32 (ix2 r u) = blockMax fun k => k0_pay1 v8 v13 v31 v32 (ix2 r k) := by
  unfold k0_pay2 blockMax
  show shapeCast S32x1 _ _ (ix2 r u) = _
  rw [shapeCast_a_a1_apply]
  refine (Ideal.multiReduction_maximumf_single _ _ _ _ _ _).trans ?_
  rw [show (FloatOps.ofBits .f32 0xFF800000#32 : Ideal .f32) = (⊥ : EReal) from ofBits_neg_inf]
  have e : ∀ k : Fin 46080, k0_pay1 v8 v13 v31 v32 (reduces_S32x46080_S32.lift (ix1 r) k) = k0_pay1 v8 v13 v31 v32 (ix2 r k) :=
    fun k => by rw [lift_row]
  exact Finset.fold_congr fun k _ => e k

/-- The running maximum of a row. -/
theorem maxBlk_apply : k0_pay5 v8 v13 v31 v32 b (ix2 r u)
    = max (b (ix2 r u)) (blockMax fun k => k0_pay1 v8 v13 v31 v32 (ix2 r k)) := by
  unfold k0_pay5 k0_pay3
  rw [shapeCast_self]
  show max (b (ix2 r u)) (k0_pay2 v8 v13 v31 v32 (ix2 r u)) = _
  rw [rowMax_apply]

/-- The running position of a row: the block's first lane of its maximum, if that is above the running maximum. -/
theorem argBlk_apply (q : BitVec 32) : k0_pay4 q (iota .tc S32x46080 32 [1] iota_S32x46080_d1_w32) v8 v13 v31 v32 b n (ix2 r u)
    = if b (ix2 r u) < blockMax (fun k => k0_pay1 v8 v13 v31 v32 (ix2 r k))
      then (Finset.univ : Finset (Fin 46080)).fold IntOp.minsi 2147483647#32 (fun k =>
          if k0_pay1 v8 v13 v31 v32 (ix2 r k) = blockMax (fun k => k0_pay1 v8 v13 v31 v32 (ix2 r k)) then BitVec.ofNat 32 k.val
          else 46080#32) + q * 46080#32
      else n (ix2 r u) := by
  unfold k0_pay4 k0_pay3
  rw [shapeCast_self, shapeCast_self]
  simp only [select, Scalar.select]
  rw [show ∀ x y : FVec Ideal S32x1 .f32, cmpf .ogt x y (ix2 r u) = BitVec.ofBool (decide (y (ix2 r u) < x (ix2 r u))) from fun _ _ => rfl,
    rowMax_apply]
  by_cases h : b (ix2 r u) < blockMax (fun k => k0_pay1 v8 v13 v31 v32 (ix2 r k))
  · rw [if_pos h, decide_eq_true h]
    refine (if_pos rfl).trans ?_
    show shapeCast S32x1 _ _ (ix2 r u) + q * 46080#32 = _
    rw [shapeCast_a_a1_apply]
    refine congrArg (· + q * 46080#32) ((multiReductionI_eq_fold _ _ _ _ _ _).trans
      ((Shape.Reduces.fold_filter_drop_single _ _ _ _ _).trans ?_))
    have key : ∀ k : Fin 46080, select (cmpf .oeq (k0_pay1 v8 v13 v31 v32)
          (broadcastTo S32x46080 (k0_pay2 v8 v13 v31 v32) broadcasts_S32x1_S32x46080))
        (iota .tc S32x46080 32 [1] iota_S32x46080_d1_w32) (broadcast S32x46080 46080#32) (reduces_S32x46080_S32.lift (ix1 r) k)
        = if k0_pay1 v8 v13 v31 v32 (ix2 r k) = blockMax (fun k => k0_pay1 v8 v13 v31 v32 (ix2 r k)) then BitVec.ofNat 32 k.val
          else 46080#32 := fun k => by
      have hi : iota .tc S32x46080 32 [1] iota_S32x46080_d1_w32 (ix2 r k) = BitVec.ofNat 32 k.val := by
        show BitVec.ofNat 32 (0 * 46080 + k.val) = _
        rw [Nat.zero_mul, Nat.zero_add]
      have hb : broadcastTo S32x46080 (k0_pay2 v8 v13 v31 v32) broadcasts_S32x1_S32x46080 (ix2 r k)
          = blockMax (fun k => k0_pay1 v8 v13 v31 v32 (ix2 r k)) := by
        rw [broadcastTo_apply _ _ _ (ix2 r (0 : Fin 1)) (fun a => by match a with | ⟨0, _⟩ => rfl | ⟨1, _⟩ => rfl), rowMax_apply]
      rw [lift_row]
      show Scalar.select (BitVec.ofBool (decide (k0_pay1 v8 v13 v31 v32 (ix2 r k) = broadcastTo S32x46080 (k0_pay2 v8 v13 v31 v32)
        broadcasts_S32x1_S32x46080 (ix2 r k)))) (iota .tc S32x46080 32 [1] iota_S32x46080_d1_w32 (ix2 r k)) 46080#32 = _
      rw [hb, hi]
      unfold Scalar.select
      by_cases e : k0_pay1 v8 v13 v31 v32 (ix2 r k) = blockMax (fun k => k0_pay1 v8 v13 v31 v32 (ix2 r k))
      · rw [if_pos e, decide_eq_true e]; exact if_pos rfl
      · rw [if_neg e, decide_eq_false e]; exact if_neg (by decide)
    exact Finset.fold_congr fun k _ => key k
  · rw [if_neg h, decide_eq_false h]
    exact if_neg (by decide)

end

end Cert.KernelIdeal.Hand
-- ==== Proof.Value.Accum.lean ====
/- What the first call's accumulators hold after each block: a row's sum of exponentials, and the maximum of its perturbed
   logits with its first position, over the columns up to the block's end. -/
module

public import proofs.«01_k».proof.Proof.Value.Steps

@[expose] public section

noncomputable section

namespace Cert.KernelIdeal.Hand

open Cert.KernelIdeal Cert.KernelIdeal.Gen Cert.Value
open Idealize.ShloMosaic Idealize.ShloMosaic.TcCoe Idealize.ShloMosaic.ValueIdx

variable (V : Valuation τ sig (Elt Ideal)) (M : IVec S32x1000000 1) (hM : V main_call0_v0 = extui 32 M natLt_1_32)
  (r : Fin 32) (u : Fin 1)
include hM

/-- One block's part of a row's sum. -/
theorem sum_block (t : Fin grid0.N) (s : Vec Ideal S32x1 .f32)
    (hs : s (ix2 r u) = ∑ k ∈ Finset.range (t.val * 46080), Ideal.exp (maskedRow (V main_arg0) M r k)) :
    sumBlk (grid0.coords t) (xBlk V t) (wBlk V t) s (ix2 r u)
      = ∑ k ∈ Finset.range ((t.val + 1) * 46080), Ideal.exp (maskedRow (V main_arg0) M r k) := by
  rw [sumBlk_apply, hs, Nat.add_mul, Nat.one_mul, Finset.sum_range_add]
  refine congrArg _ ?_
  rw [Finset.sum_range]
  exact Finset.sum_congr rfl fun k _ => congrArg Ideal.exp (masked_lane V M hM t (ix2 r k))

/-- The running sums. -/
theorem sumAt_eq (n : ℕ) (hn : n < 22) : sumAt V n (ix2 r u)
    = ∑ k ∈ Finset.range ((n + 1) * 46080), Ideal.exp (maskedRow (V main_arg0) M r k) := by
  induction n with
  | zero =>
    have := sum_block V M hM r u (pt 0) (k0_pay6 (F := Ideal))
    rw [show (pt 0).val = 0 from rfl, Nat.zero_mul] at this
    refine this ?_
    show Ideal.ofBits .f32 0x00000000#32 = _
    rw [Ideal.ofBits_zero_f32]; rfl
  | succ n ih =>
    have e : (pt (n + 1)).val = n + 1 := Nat.mod_eq_of_lt hn
    have := sum_block V M hM r u (pt (n + 1)) (sumAt V n)
    rw [e] at this
    exact this (ih (by omega))

/-- One block's part of a row's maximum and its first position. -/
theorem first_block (t : Fin grid0.N) (b : Vec Ideal S32x1 .f32) (n : Vec Ideal S32x1 .i32)
    (h : ∃ i : ℕ, n (ix2 r u) = BitVec.ofNat 32 i
      ∧ FirstMax (perturbedRow (V main_arg0) M (V main_arg2) r) (t.val * 46080) (b (ix2 r u)) i) :
    ∃ i : ℕ, argBlk (grid0.coords t) (xBlk V t) (wBlk V t) (uBlk V t) b n (ix2 r u) = BitVec.ofNat 32 i
      ∧ FirstMax (perturbedRow (V main_arg0) M (V main_arg2) r) ((t.val + 1) * 46080)
          (maxBlk (grid0.coords t) (xBlk V t) (wBlk V t) (uBlk V t) b (ix2 r u)) i := by
  obtain ⟨i, hn, hf⟩ := h
  obtain ⟨a, ha, hfirst, hfold⟩ := first_lane fun k => pertBlk V t (ix2 r k)
  have lane : ∀ k : Fin 46080, pertBlk V t (ix2 r k) = perturbedRow (V main_arg0) M (V main_arg2) r (t.val * 46080 + k.val) :=
    fun k => perturbed_lane V M hM t (ix2 r k)
  have step := hf.block (l := 46080) (a := a.val) (m := blockMax fun k => pertBlk V t (ix2 r k))
    (fun k hk => (lane ⟨k, hk⟩).symm.trans_le (le_blockMax (fun k => pertBlk V t (ix2 r k)) ⟨k, hk⟩)) a.isLt
    ((lane a).symm.trans ha) (fun k hk => (lane ⟨k, hk.trans a.isLt⟩).symm.trans_lt (hfirst ⟨k, hk.trans a.isLt⟩ hk))
  unfold argBlk maxBlk
  rw [argBlk_apply, maxBlk_apply, coords0, hfold, Nat.add_mul, Nat.one_mul]
  refine ⟨_, ?_, step⟩
  split_ifs
  · rw [BitVec.ofNat_add, BitVec.ofNat_mul, BitVec.add_comm]
  · exact hn

/-- The running maxima and positions. -/
theorem argAt_eq (n : ℕ) (hn : n < 22) : ∃ i : ℕ, argAt V n (ix2 r u) = BitVec.ofNat 32 i
    ∧ FirstMax (perturbedRow (V main_arg0) M (V main_arg2) r) ((n + 1) * 46080) (maxAt V n (ix2 r u)) i := by
  induction n with
  | zero =>
    have := first_block V M hM r u (pt 0) (k0_pay7 (F := Ideal)) k0_pay8
    rw [show (pt 0).val = 0 from rfl, Nat.zero_mul] at this
    refine this ⟨0, rfl, ?_⟩
    rw [show (k0_pay7 (F := Ideal) (ix2 r u) : EReal) = ⊥ from ofBits_neg_inf]
    exact FirstMax.zero
  | succ n ih =>
    have e : (pt (n + 1)).val = n + 1 := Nat.mod_eq_of_lt hn
    have := first_block V M hM r u (pt (n + 1)) (maxAt V n) (argAt V n)
    rw [e] at this
    exact this (ih (by omega))

/-- At the end, over the row's own columns: a row's sum of exponentials. -/
theorem sum_end : sumAt V 21 (ix2 r u) = ∑ k : Fin 1000000, Ideal.exp (maskedRow (V main_arg0) M r k.val) := by
  rw [sumAt_eq V M hM r u 21 (by decide), show (21 + 1) * 46080 = 1000000 + 13760 from rfl, Finset.sum_range_add,
    Finset.sum_range fun k => Ideal.exp (maskedRow (V main_arg0) M r k)]
  rw [Finset.sum_eq_zero (s := Finset.range 13760) fun k _ => by
    rw [maskedRow_past _ _ _ (Nat.le_add_right _ _)]; rfl]
  exact add_zero _

/-- At the end, over the row's own columns: the first position of a row's maximum. -/
theorem arg_end : ∃ (i : ℕ) (b : EReal), argAt V 21 (ix2 r u) = BitVec.ofNat 32 i
    ∧ FirstMax (perturbedRow (V main_arg0) M (V main_arg2) r) 1000000 b i := by
  obtain ⟨i, e, h⟩ := argAt_eq V M hM r u 21 (by decide)
  exact ⟨i, _, e, h.cut (by decide) fun k hk _ => perturbedRow_past _ _ _ _ hk⟩

end Cert.KernelIdeal.Hand
-- ==== Proof.Value.Arrays.lean ====
/- What the two calls leave in their result arrays. -/
module

public import proofs.«01_k».proof.Proof.Value.Accum
public import proofs.«01_k».proof.Proof.KernelIdeal.Run
public import Idealize.ShloMosaic.Lib.Pipeline.ValueKit

@[expose] public section

set_option maxRecDepth 16384

noncomputable section

namespace Cert.KernelIdeal.Hand

open Cert.KernelIdeal Cert.KernelIdeal.Gen Cert.Value
open Idealize.ShloMosaic Idealize.ShloMosaic.TcCoe
open Idealize.ShloMosaic.Pipeline (Dat Window)

section FirstCall
variable (V : Valuation τ sig (Elt Ideal)) (M : IVec S32x1000000 1) (hM : V main_call0_v0 = extui 32 M natLt_1_32) (c : Dev nD)

attribute [local irreducible] sumAt maxAt argAt

/-- The last point of the first call's grid. -/
abbrev lastPt : Fin cfg0.N := ⟨21, by decide⟩

/-- The row sums' array holds the sums after the last block. -/
theorem sums_array : (dat0 V c).arrAt (3 : Fin 7) cfg0.N = sumAt V 21 :=
  (dat0 V c).arrAt_eq_of_after_last (3 : Fin 7) lastPt (by decide +kernel) (sumAt V 21) fun j => rfl

/-- The positions' array holds the positions after the last block. -/
theorem args_array : (dat0 V c).arrAt (5 : Fin 7) cfg0.N = argAt V 21 :=
  (dat0 V c).arrAt_eq_of_after_last (5 : Fin 7) lastPt (by decide +kernel) (argAt V 21) fun j => rfl

theorem index0_6 : ∀ t : Fin grid0.N, win0_6.index t 0 = 0 ∧ win0_6.index t 1 = t.val := by decide +kernel

include hM in
/-- The stored exponentials' array holds the rows' exponentials. -/
theorem exps_array : (dat0 V c).arrAt (6 : Fin 7) cfg0.N
    = (fun i => Ideal.exp (maskedRow (V main_arg0) M (i 0) (i 1).val) : S32x1000000.Idx → EReal) := by
  refine (dat0 V c).arrAt_eq_of_covers (6 : Fin 7) _ (by decide +kernel) fun t _ y => ?_
  show Ideal.exp (k0_pay10 (grid0.coords t) (xBlk V t) (wBlk V t) (win0_6.xinj (grid0.coords t) y)) = Ideal.exp (maskedRow _ M
    ((win0_6.blk t).view.emb y 0) ((win0_6.blk t).view.emb y 1).val)
  rw [masked_lane V M hM t]
  refine congrArg Ideal.exp (congrArg₂ (maskedRow (V main_arg0) M) (Fin.ext ?_) ?_)
  · show (y 0).val = win0_6.index t 0 * 32 + 1 * (y 0).val
    rw [(index0_6 t).1]; omega
  · show t.val * 46080 + (y 1).val = win0_6.index t 1 * 46080 + 1 * (y 1).val
    rw [(index0_6 t).2]; omega
end FirstCall

section SecondCall
variable (V : Valuation τ sig (Elt Ideal)) (c : Dev nD)

theorem index1_0 : ∀ t : Fin grid1.N, win1_0.index t 0 = 0 ∧ win1_0.index t 1 = t.val := by decide +kernel
theorem index1_2 : ∀ t : Fin grid1.N, win1_2.index t 0 = 0 ∧ win1_2.index t 1 = t.val := by decide +kernel
theorem extent1 : ∀ t : Fin grid1.N, ∀ a, win1_2.xsize (grid1.coords t) a = win1_0.xsize (grid1.coords t) a := by decide +kernel

/-- A lane the result's transfer moves holds the stored exponential at the lane's column. -/
theorem eBlk_moved (t : Fin grid1.N) (y : (win1_2.xblock (grid1.coords t)).Idx) :
    eBlk V t (win1_2.xinj (grid1.coords t) y) = V main_call0_v1_3 ((win1_2.blk t).view.emb y) := by
  unfold eBlk Pipeline.Window.fill
  have hm : ∀ a, ((win1_2.xinj (grid1.coords t) y) a).val < win1_0.xsize (grid1.coords t) a := fun a => by
    rw [← extent1 t a]; exact (y a).isLt
  rw [dif_pos ((win1_0.moved_iff _ _).mpr hm), View.read_apply]
  refine congrArg (V main_call0_v1_3) (funext fun a => Fin.ext ?_)
  match a with
  | ⟨0, _⟩ =>
    show win1_0.index t 0 * 32 + 1 * (y 0).val = win1_2.index t 0 * 32 + 1 * (y 0).val
    rw [(index1_0 t).1, (index1_2 t).1]
  | ⟨1, _⟩ =>
    show win1_0.index t 1 * 131072 + 1 * (y 1).val = win1_2.index t 1 * 131072 + 1 * (y 1).val
    rw [(index1_0 t).2, (index1_2 t).2]

/-- The second call's lane: the exponential times the inverse of the row's sum. -/
theorem quotient_lane (s : Vec Ideal S32x1 .f32) (e : Vec Ideal S32x131072 .bf16) (j : S32x131072.Idx) :
    k1_pay1 s e j = (e j : EReal) * Ideal.div 1 (s (ValueIdx.ix2 (j 0) (0 : Fin 1))) := by
  unfold k1_pay1
  rw [shapeCast_self, shapeCast_self]
  show (e j : EReal) * broadcastTo S32x131072 _ broadcasts_S32x1_S32x131072 j = _
  refine congrArg ((e j : EReal) * ·) ((broadcastTo_apply _ _ j (ValueIdx.ix2 (j 0) (0 : Fin 1))
    (fun a => by match a with | ⟨0, _⟩ => rfl | ⟨1, _⟩ => rfl)).trans ?_)
  exact congrArg (Ideal.div · (s (ValueIdx.ix2 (j 0) (0 : Fin 1)))) ofBits_one

/-- The quotients' array. -/
theorem quotients_array : (dat1 V c).arrAt (2 : Fin 3) cfg1.N
    = (fun i => (show EReal from V main_call0_v1_3 i) * Ideal.div 1 (V main_call0_v1_0 (ValueIdx.ix2 (i 0) (0 : Fin 1))) : S32x1000000.Idx → EReal) := by
  refine (dat1 V c).arrAt_eq_of_covers (2 : Fin 3) _ (by decide +kernel) fun t _ y => ?_
  show k1_pay1 (V main_call0_v1_0) (eBlk V t) (win1_2.xinj (grid1.coords t) y) = (show EReal from V main_call0_v1_3 ((win1_2.blk t).view.emb y))
    * Ideal.div 1 (V main_call0_v1_0 (ValueIdx.ix2 ((win1_2.blk t).view.emb y 0) (0 : Fin 1)))
  rw [quotient_lane, eBlk_moved]
  refine congrArg (fun r : Fin 32 => (show EReal from V main_call0_v1_3 ((win1_2.blk t).view.emb y))
    * Ideal.div 1 (V main_call0_v1_0 (ValueIdx.ix2 r (0 : Fin 1)))) (Fin.ext ?_)
  show (y 0).val = win1_2.index t 0 * 32 + 1 * (y 0).val
  rw [(index1_2 t).1]; omega
end SecondCall

end Cert.KernelIdeal.Hand
-- ==== Proof.Value.Results.lean ====
/- What the kernel's program leaves in its two results, from the contents it is launched with. -/
module

public import proofs.«01_k».proof.Proof.Value.Arrays

@[expose] public section

noncomputable section

namespace Cert.KernelIdeal.Hand

open Cert.KernelIdeal Cert.KernelIdeal.Gen Cert.Value
open Idealize.ShloMosaic Idealize.ShloMosaic.TcCoe

section
variable (m : (ℓ : Loc nD τ sig) → Buf (Elt Ideal) ℓ) (c : Dev nD)

/-- The mask as the first call reads it is the argument's bits widened to words. -/
theorem mask_words : V1 m c main_call0_v0 = extui 32 (m ((c : Thread nD τ).loc main_arg1)) natLt_1_32 := rfl

/-- The first result: each exponential times the inverse of its row's sum. -/
theorem fin_result0 : fin m c main_v0_0 = (fun i =>
    Ideal.exp (maskedRow (m ((c : Thread nD τ).loc main_arg0)) (m ((c : Thread nD τ).loc main_arg1)) (i 0) (i 1).val)
      * Ideal.div 1 (∑ k : Fin 1000000, Ideal.exp (maskedRow (m ((c : Thread nD τ).loc main_arg0))
          (m ((c : Thread nD τ).loc main_arg1)) (i 0) k.val)) : S32x1000000.Idx → EReal) := by
  have e := Pipeline.afterRegion_arr (cfg := cfg1) (dat1 (mid m c) c) (mid m c) winFacts1.arr_inj (2 : Fin 3)
  refine (e.trans (quotients_array (mid m c) c)).trans (funext fun i => ?_)
  have e6 : mid m c main_call0_v1_3 = _ :=
    (Pipeline.afterRegion_arr (cfg := cfg0) (dat0 (V1 m c) c) (V1 m c) winFacts0.arr_inj (6 : Fin 7)).trans
      (exps_array (V1 m c) _ (mask_words m c) c)
  have e3 : mid m c main_call0_v1_0 = _ :=
    (Pipeline.afterRegion_arr (cfg := cfg0) (dat0 (V1 m c) c) (V1 m c) winFacts0.arr_inj (3 : Fin 7)).trans (sums_array (V1 m c) c)
  have hs := sum_end (V1 m c) _ (mask_words m c) (i 0) 0
  rw [V1_of m c main_arg0 (by decide)] at hs e6
  rw [e6, e3]
  exact congrArg (fun s => Ideal.exp (maskedRow (m ((c : Thread nD τ).loc main_arg0)) (m ((c : Thread nD τ).loc main_arg1)) (i 0)
    (i 1).val) * Ideal.div 1 s) hs

/-- The second result: the positions after the last block. -/
theorem fin_result1 : fin m c main_v0_1 = argAt (V1 m c) 21 := by
  rw [fin_arg m c (by decide)]
  exact (Pipeline.afterRegion_arr (cfg := cfg0) (dat0 (V1 m c) c) (V1 m c) winFacts0.arr_inj (5 : Fin 7)).trans (args_array (V1 m c) c)

/-- Its row's entry is the first position of the perturbed logits' maximum. -/
theorem fin_result1_first (r : Fin 32) (u : Fin 1) : ∃ (i : ℕ) (b : EReal), fin m c main_v0_1 (ValueIdx.ix2 r u) = BitVec.ofNat 32 i
    ∧ FirstMax (perturbedRow (m ((c : Thread nD τ).loc main_arg0)) (m ((c : Thread nD τ).loc main_arg1))
        (m ((c : Thread nD τ).loc main_arg2)) r) 1000000 b i := by
  rw [fin_result1]
  have := arg_end (V1 m c) _ (mask_words m c) r u
  rwa [V1_of m c main_arg0 (by decide), V1_of m c main_arg2 (by decide)] at this

end

end Cert.KernelIdeal.Hand
-- ==== Proof.Value.Algebraic.lean ====
/- The algebraic claim: the kernel's and the reference's results are the same extended reals. -/
module

public import proofs.«01_k».proof.Defs
public import proofs.«01_k».proof.Proof.Value.Equation
public import proofs.«01_k».proof.Proof.Value.Results

@[expose] public section

noncomputable section

namespace Cert.Value

open Idealize.ShloMosaic Idealize.ShloMosaic.TcCoe Idealize.SL.Sem
open Cert.KernelIdeal (nD τ sig main_arg0 main_arg1 main_arg2 main_v0_0 main_v0_1)
open Cert.ReferenceIdeal.Hand (masked gumbel softmax argmax top)

variable (m : (ℓ : Loc nD τ sig) → Buf (Elt Ideal) ℓ) (c : Dev nD)

/-- The first results agree. -/
theorem probs_eq (h : ∀ r, ⊥ < top (masked (F := Ideal) (m ((c : Thread nD τ).loc main_arg0)) (m ((c : Thread nD τ).loc main_arg1))) r
      ∧ top (masked (F := Ideal) (m ((c : Thread nD τ).loc main_arg0)) (m ((c : Thread nD τ).loc main_arg1))) r < ⊤) :
    Cert.KernelIdeal.Hand.fin m c main_v0_0
      = softmax (F := Ideal) (masked (F := Ideal) (m ((c : Thread nD τ).loc main_arg0)) (m ((c : Thread nD τ).loc main_arg1))) := by
  rw [Cert.KernelIdeal.Hand.fin_result0]
  funext i
  obtain ⟨r, k, rfl⟩ : ∃ (r : Fin 32) (k : Fin 1000000), i = ValueIdx.ix2 r k := ⟨i 0, i 1, ValueIdx.eq_ix2 i⟩
  exact (Cert.ReferenceIdeal.Hand.softmax_eq _ _ r (h r) k).symm

/-- The second results agree. -/
theorem sampled_eq : Cert.KernelIdeal.Hand.fin m c main_v0_1
    = argmax (F := Ideal) (addf (masked (F := Ideal) (m ((c : Thread nD τ).loc main_arg0)) (m ((c : Thread nD τ).loc main_arg1)))
        (gumbel (F := Ideal) (m ((c : Thread nD τ).loc main_arg2)))) := by
  funext i
  obtain ⟨r, u, rfl⟩ : ∃ (r : Fin 32) (u : Fin 1), i = ValueIdx.ix2 r u := ⟨i 0, i 1, ValueIdx.eq_ix2 i⟩
  obtain ⟨n, b, e, h⟩ := Cert.KernelIdeal.Hand.fin_result1_first m c r u
  exact e.trans (Cert.ReferenceIdeal.Hand.argmax_eq _ _ _ r u h).symm

/-- From memories that agree on the arguments and whose rows have finite maxima, both programs end with the same results. -/
theorem algebraic [Cert.Pre_rows_have_a_finite_maximum.Facts] :
    Cert.algebraic_KernelIdeal_ReferenceIdeal_pre_rows_have_a_finite_maximum := by
  intro m g m' g' hpre hargs
  refine ⟨fun c => Cert.KernelIdeal.Hand.fin m c main_v0_0, fun c => Cert.KernelIdeal.Hand.fin m c main_v0_1, ?_, ?_⟩
  · refine θ_run_mono (Cert.KernelIdeal.Hand.run_main m g) fun r h c => ?_
    exact ⟨h.1 c main_v0_0 rfl, h.1 c main_v0_1 rfl,
      (h.1 c main_arg0 rfl).trans (Cert.KernelIdeal.Hand.fin_launch m c (by decide)),
      (h.1 c main_arg1 rfl).trans (Cert.KernelIdeal.Hand.fin_launch m c (by decide)),
      (h.1 c main_arg2 rfl).trans (Cert.KernelIdeal.Hand.fin_launch m c (by decide)),
      (h.1 c Cert.KernelIdeal.main_arg3 rfl).trans (Cert.KernelIdeal.Hand.fin_launch m c (by decide))⟩
  · refine θ_run_mono (Cert.ReferenceIdeal.Hand.run_main m' g') fun r h c => ?_
    obtain ⟨h0, h1, h2, -⟩ := hargs c
    have e0 := Cert.ReferenceIdeal.Hand.result0_eq (F := Ideal) (StableHlo.launchContents m' c)
    have e1 := Cert.ReferenceIdeal.Hand.result1_eq (F := Ideal) (StableHlo.launchContents m' c)
    refine ⟨((h.1 c Cert.ReferenceIdeal.main_v11).trans e0).trans ?_, ((h.1 c Cert.ReferenceIdeal.main_v22).trans e1).trans ?_,
      (h.1 c Cert.ReferenceIdeal.main_arg0).trans (Cert.ReferenceIdeal.Hand.arg_kept _ (by decide)),
      (h.1 c Cert.ReferenceIdeal.main_arg1).trans (Cert.ReferenceIdeal.Hand.arg_kept _ (by decide)),
      (h.1 c Cert.ReferenceIdeal.main_arg2).trans (Cert.ReferenceIdeal.Hand.arg_kept _ (by decide)),
      (h.1 c Cert.ReferenceIdeal.main_arg3).trans (Cert.ReferenceIdeal.Hand.arg_kept _ (by decide))⟩
    · refine (congrArg₂ (fun x w => softmax (F := Ideal) (masked (F := Ideal) x w)) h0 h1).trans ?_
      exact (probs_eq m c fun r => Cert.ReferenceIdeal.Hand.top_finite _ _ _ _ (hpre c) r).symm
    · refine (congrArg₂ (fun y u => argmax (F := Ideal) (addf y (gumbel (F := Ideal) u))) (congrArg₂ (masked (F := Ideal)) h0 h1) h2).trans ?_
      exact (sampled_eq m c).symm

end Cert.Value
-- ==== Proof.lean ====
/- The certificate's claims, put together from the modules below. -/
module

public import proofs.«01_k».proof.Defs
public import proofs.«01_k».proof.Proof.Gen.ReferenceIdeal
public import proofs.«01_k».proof.Proof.Reference.Run
public import proofs.«01_k».proof.Proof.Kernel.Same
public import proofs.«01_k».proof.Proof.KernelIdeal.Run
public import proofs.«01_k».proof.Proof.Value.Algebraic

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.ReferenceIdeal.Hand.preFacts,
  Cert.Kernel.Hand.run_frame,
  fun m g _ => Cert.KernelIdeal.Hand.run_frame m g, fun m g _ => Cert.KernelIdeal.Hand.run_frame m g,
  fun m g _ => Cert.ReferenceIdeal.Hand.run_frame m g, fun m g _ => Cert.ReferenceIdeal.Hand.run_frame m g,
  trivial, @Cert.Value.algebraic Cert.ReferenceIdeal.Hand.preFacts⟩

end Cert.Proof

end
